-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x50 : Shape := ⟨2, ![4096, 50]⟩
abbrev S100000x1 : Shape := ⟨2, ![100000, 1]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x1 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x1 : Shape := ⟨2, ![100000, 1]⟩
abbrev S50x4096 : Shape := ⟨2, ![50, 4096]⟩
abbrev S100000 : Shape := ⟨1, ![100000]⟩
abbrev S50x128 : Shape := ⟨2, ![50, 128]⟩
abbrev S_ : Shape := ⟨0, ![]⟩
abbrev S1x128 : Shape := ⟨2, ![1, 128]⟩
abbrev S128 : Shape := ⟨1, ![128]⟩
abbrev S4096x50x1 : Shape := ⟨3, ![4096, 50, 1]⟩

abbrev nBuf : Table → Nat
  | .hbm => 7
  | .shared => 1
  | .local .scVector .vmem => 2
  | _ => 0

abbrev bufTy : (tb : Table) → Fin (nBuf tb) → BufTy
  | .hbm, ⟨0, _⟩ => ⟨S4096x50, .i32⟩
  | .hbm, ⟨1, _⟩ => ⟨S100000x1, .f32⟩
  | .hbm, ⟨2, _⟩ => ⟨S50x4096, .i32⟩
  | .hbm, ⟨3, _⟩ => ⟨S100000, .f32⟩
  | .hbm, ⟨4, _⟩ => ⟨S50x4096, .f32⟩
  | .hbm, ⟨5, _⟩ => ⟨S4096x50, .f32⟩
  | .hbm, ⟨6, _⟩ => ⟨S4096x50x1, .f32⟩
  | .shared, ⟨0, _⟩ => ⟨S100000, .f32⟩
  | .local .scVector .vmem, ⟨0, _⟩ => ⟨S50x128, .i32⟩
  | .local .scVector .vmem, ⟨1, _⟩ => ⟨S50x128, .f32⟩
  | _, _ => ⟨S4096x50, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 5 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_356_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k0_off2 (c0_i32_4 : BitVec 32) : Fin 2 → Nat :=
  let c0_i32_2 : BitVec 32 := 0#32
  let c50_i32 : BitVec 32 := 50#32
  let v6 : BitVec 32 := Scalar.muli c0_i32_2 c50_i32
  let v8 : BitVec 32 := Scalar.addi v6 c0_i32_4
  let c0_i32_5 : BitVec 32 := 0#32
  ![v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S100000x1 : Shape := ⟨2, ![100000, 1]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x1, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x1, .f32⟩
  | .hbm, ⟨21, _⟩ => ⟨S4096x50x1, .i1⟩
  | .hbm, ⟨22, _⟩ => ⟨S_, .f32⟩
  | .hbm, ⟨23, _⟩ => ⟨S4096x50x1, .f32⟩
  | .hbm, ⟨24, _⟩ => ⟨S4096x50x1, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The kernel as the launch theorem sees it: ghost state, locations, contents, the subcore barrier's schedule, and what
  the handshakes carry. Thirty-two tiles take part, all sixteen of both SparseCores. Tile `(c, i)` owns columns
  `[128 * (2 i + c), + 128)` of the transposed indices and of the result. Tile 0 of each SparseCore copies the table
  into that SparseCore's shared memory; the barrier hands every tile a share of the copy.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tpu

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none
/-- The SparseCore and the tile of the call's core number `c` and subcore number `i`. -/
abbrev coreOf (c : Fin ((K (F := F)).nCore 0)) : Fin τ.nSC := (K (F := F)).core 0 c
abbrev tileOf (i : Fin ((K (F := F)).nSub 0)) : Fin τ.nSub := (K (F := F)).sub 0 i

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds, the barrier's, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## Locations and contents -/

variable (m : (ℓ : Loc nD τ sig) → Buf (Elt F) ℓ) (ρ : Dev nD → PrngReg)

/-- The transposed indices, the flat table, the result before its last transpose. -/
abbrev iLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2
/-- SparseCore `c`'s shared memory, the same buffer for each of its tiles. -/
abbrev shRef (c : Fin τ.nSC) : DevRef τ sig := ⟨.shared, ⟨0, by decide⟩, c⟩
abbrev shLoc (d : Dev nD) (c : Fin τ.nSC) : Loc nD τ sig := (d, shRef c)

variable [FloatOps F]

/-- The host's operations before the call, as `main` prints them, and the memory after them. -/
abbrev opI : HloOp τ sig (Elt F) := StableHlo.unary main_arg0 main_v0 ((transpose S50x4096 [1, 0] · transposes_S4096x50_S50x4096_1_0) : (⟨S4096x50, .i32⟩ : BufTy).Contents (Elt F) → (⟨S50x4096, .i32⟩ : BufTy).Contents (Elt F))
abbrev opT : HloOp τ sig (Elt F) := StableHlo.reshape main_arg1 main_v1 (rfl : (.f32 : EltTy) = .f32) shapeCasts_S100000x1_S100000
abbrev V0 (d : Dev nD) : Valuation τ sig (Elt F) := fun b => m (d, b)
abbrev V1 (d : Dev nD) : Valuation τ sig (Elt F) := (opI (F := F)).result (V0 m d)
abbrev V2 (d : Dev nD) : Valuation τ sig (Elt F) := (opT (F := F)).result (V1 m d)

/-- The indices and the table as the call finds them. -/
def iC (d : Dev nD) : S50x4096.Idx → Elt F .i32 := V2 m d ((Proc.tc : Proc τ).devRef main_v0)
def tC (d : Dev nD) : S100000.Idx → Elt F .f32 := V2 m d ((Proc.tc : Proc τ).devRef main_v1)

omit [FloatOps F] in
theorem tIx_lt (w : BitVec 32) (a : Fin S100000.rank) : w.toNat % 100000 < S100000.size a := by
  obtain rfl : a = 0 := Subsingleton.elim (α := Fin 1) _ _
  exact Nat.mod_lt _ (by decide)
/-- The table's index a word names (a word in range names itself). -/
def tIx (w : BitVec 32) : S100000.Idx := fun a => ⟨w.toNat % 100000, tIx_lt w a⟩

/-- The kernel's result: the table at the row each index names. -/
def oC (d : Dev nD) : S50x4096.Idx → Elt F .f32 := fun x => tC m d (tIx (iC m d x))

/-! ## Column blocks and shares -/

omit [FloatOps F] in
theorem hdivC : 32 ∣ S50x4096.size 1 := ⟨128, rfl⟩
abbrev col (w : Fin 32) : Rect S50x4096 := Rect.part (s := S50x4096) (a₀ := 1) hdivC w
/-- Tile `(c, i)`'s number among the 32. -/
def wid (c : Fin τ.nSC) (i : Fin τ.nSub) : Fin 32 := ⟨2 * i.val + c.val, by
  have h1 : c.val < 2 := c.isLt
  have h2 : i.val < 16 := i.isLt
  omega⟩
abbrev colSet (c : Fin τ.nSC) (i : Fin τ.nSub) : Finset S50x4096.Idx := (col (wid c i)).set

/-- A SparseCore's share of the table, a tile's part of it, a tile's share of its SparseCore's copy. -/
def tqC (c : Fin τ.nSC) : PosShare TreeShare := pieceOf fullShare τ.nSC (by decide) c
def tq (c : Fin τ.nSC) (i : Fin τ.nSub) : PosShare TreeShare := pieceOf (tqC c) τ.nSub (by decide) i
def shq (i : Fin τ.nSub) : PosShare TreeShare := pieceOf fullShare τ.nSub (by decide) i

abbrev iPts (d : Dev nD) (c : Fin τ.nSC) (i : Fin τ.nSub) : sProp 𝕄 := iLoc d ↦[colSet c i]{fullShare} iC m d
abbrev oPts (d : Dev nD) (c : Fin τ.nSC) (i : Fin τ.nSub) (f : Buf (Elt F) (oLoc d)) : sProp 𝕄 := oLoc d ↦[colSet c i]{fullShare} f
abbrev tPts (d : Dev nD) (c : Fin τ.nSC) (i : Fin τ.nSub) : sProp 𝕄 := tLoc d ↦{tq c i} tC m d
/-- A tile's share of the shared copy of the table. -/
abbrev shPts (d : Dev nD) (c : Fin τ.nSC) (i : Fin τ.nSub) : sProp 𝕄 := shLoc d c ↦{shq i} tC m d
/-- Tile 0's start: its SparseCore's shared memory whole; the other tiles', nothing of it. -/
def shIn (d : Dev nD) (c : Fin τ.nSC) (i : Fin τ.nSub) : sProp 𝕄 := if i.val = 0 then iprop(∃ f, shLoc d c ↦{fullShare} f) else iprop(emp)

instance shIn_storable (d : Dev nD) (c : Fin τ.nSC) (i : Fin τ.nSub) : BI.Storable (upEmb : UEmb _ 𝕄) (shIn (F := F) d c i) := by
  unfold shIn; split <;> infer_instance

/-! ## The barrier -/

/-- Tile `(c, j)`'s barrier semaphore. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

/-- What duty `n` in tile `(c, j)`'s round hands over: tile 0's, the tile's share of the copied table; the others', nothing. -/
def bPay (g : GSem nD τ sig) (n : ℕ) : sProp 𝕄 :=
  match g with
  | ((d, .scVector c j), _) => if n = 0 then shPts m d c j else iprop(emp)
  | _ => iprop(emp)

/-- One round on each barrier semaphore, a unit duty for each tile of the SparseCore. -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd m).payload g r n) := by
  show BI.Storable upEmb (bPay m g n)
  unfold bPay
  rcases g with ⟨⟨d, _ | c | ⟨c, i⟩⟩, sm⟩ <;> dsimp only <;> (repeat' split) <;> infer_instance

theorem bRd_duties₀ (d : Dev nD) (c : Fin τ.nSC) (j : Fin τ.nSub) : (bRd m).duties (bcell d c j) 0 = (Finset.univ : Finset (Fin τ.nSub)).image Fin.val := by
  simp [bRd, isBar]
theorem bRd_duties_succ (g : GSem nD τ sig) (r : ℕ) (hr : 1 ≤ r) : (bRd m).duties g r = ∅ :=
  if_neg fun h => absurd h.2 (Nat.ne_of_gt hr)
theorem bRd_mem₀ (d : Dev nD) (c : Fin τ.nSC) (j i : Fin τ.nSub) : i.val ∈ (bRd m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile of SparseCore `c` owes for the barrier: a unit on every tile's semaphore of its SparseCore. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch deals tile `(c, i)` for the barrier: the invariants of its SparseCore's barrier semaphores and that
    each is at round 0, its duty tokens, its own position, the credit of its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- A tile's start: its columns of the indices and of the result, its part of the table, tile 0 the shared memory. -/
abbrev tIn (d : Dev nD) (c : Fin τ.nSC) (i : Fin τ.nSub) : sProp 𝕄 :=
  iprop(iPts m d c i ∗ (∃ f, oPts d c i f) ∗ tPts m d c i ∗ shIn d c i)
/-- A tile's end: the same columns, the result's at the gathered values, its share of the copied table. -/
abbrev tOut (d : Dev nD) (c : Fin τ.nSC) (i : Fin τ.nSub) : sProp 𝕄 :=
  iprop((iPts m d c i ∗ oPts d c i (oC m d) ∗ tPts m d c i ∗ shPts m d c i) ∗ semVal (bcell d c i) 0)
/-- A SparseCore's start and end. -/
abbrev cIn (d : Dev nD) (c : Fin τ.nSC) : sProp 𝕄 :=
  bigSep Finset.univ fun i : Fin τ.nSub => iprop(iPts m d c i ∗ (∃ f, oPts d c i f) ∗ tPts m d c i)
abbrev cOut (d : Dev nD) (c : Fin τ.nSC) : sProp 𝕄 :=
  bigSep Finset.univ fun i : Fin τ.nSub => iprop((iPts m d c i ∗ oPts d c i (oC m d) ∗ tPts m d c i) ∗ semVal (bcell d c i) 0)

set_option backward.proofsInPublic true in
def P : (K (F := F)).Pay (nD := nD) (Val := Elt F) (Name := ℕ) (U := UU) where
  st := fun q d c => cIn m d ((K (F := F)).core q c)
  dn := fun q d c => cOut m d ((K (F := F)).core q c)
  go := fun q d c i => tIn m d ((K (F := F)).core q c) ((K (F := F)).sub q i)
  td := fun q d c i => tOut m d ((K (F := F)).core q c) ((K (F := F)).sub q i)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m).IsStorable where
  st _ d c := (inferInstance : BI.Storable (upEmb : UEmb _ 𝕄) (cIn m d _))
  dn _ d c := (inferInstance : BI.Storable (upEmb : UEmb _ 𝕄) (cOut m d _))
  go _ d c i := (inferInstance : BI.Storable (upEmb : UEmb _ 𝕄) (tIn m d _ _))
  td _ d c i := (inferInstance : BI.Storable (upEmb : UEmb _ 𝕄) (tOut m d _ _))

end Cert.Proof.Tpu

end
-- ==== Proof.Program.lean ====
/-
  The kernel's body regrouped: stage the table (tile 0), fetch the tile's indices, meet at the barrier, start the 50
  gathers, wait for the 50 gathers, write the rows out. The gathers and the waits are spelt once, at a symbolic row.
-/
module

public import proofs.«01_k».proof.Proof.Setup

@[expose] public section

noncomputable section

namespace Cert.Proof.Tpu

open Cert.KernelIdeal Cert.KernelIdeal.Gen
open Idealize.ShloMosaic Idealize.SL.Sem

variable {F : FTy → Type} [FloatOps F]

/-- The kernel's memrefs: the indices, the table and the result in HBM; a tile's index and row scratch; the shared table. -/
abbrev iM : Memref sig .scVector .hbm S50x4096 .i32 := Memref.whole main_v0_scv
abbrev tM : Memref sig .scVector .hbm S100000 .f32 := Memref.whole main_v1_scv
abbrev oM : Memref sig .scVector .hbm S50x4096 .f32 := Memref.whole main_v2_scv
abbrev lM : Memref sig .scVector .vmem S50x128 .i32 := Memref.whole cc0_scratch0
abbrev rM : Memref sig .scVector .vmem S50x128 .f32 := Memref.whole cc0_scratch1
abbrev sM : Memref sig .scVector .shared S100000 .f32 := Memref.whole cc0_scratch2

/-- The tile's columns of the indices and of the result. -/
abbrev blkK (L : grid0.Coords) : Rect S50x4096 := Rect.unit (s := S50x4096) (k0_off1 L) S50x128.size (k0_off1_inb L)
abbrev iB (L : grid0.Coords) : Memref sig .scVector .hbm S50x128 .i32 := iM.slice (blkK L) (fun _ => rfl)
abbrev oB (L : grid0.Coords) : Memref sig .scVector .hbm S50x128 .f32 := oM.slice (blkK L) (fun _ => rfl)
/-- Row `r` of the tile's scratch: where gather `r` writes, and the list it reads. -/
abbrev rowK (r : Fin 50) : Rect S50x128 := Rect.unit (s := S50x128) (k0_off2 (BitVec.ofNat 32 r.val)) S1x128.size (k0_off2_inb r)
abbrev rR (r : Fin 50) : Memref sig .scVector .vmem S128 .f32 := (rM.slice (rowK r) (fun _ => rfl)).squeeze S128 squeezes_S1x128_S128
abbrev lR (r : Fin 50) : Memref sig .scVector .vmem S128 .i32 := (lM.slice (rowK r) (fun _ => rfl)).squeeze S128 squeezes_S1x128_S128
/-- The gathers' source: the shared table. -/
abbrev sT : Memref sig .scVector .shared S100000 .f32 := sM.slice (Rect.unit (s := S100000) ![0] S100000.size inb_S100000_S100000_0) (fun _ => rfl)

/-- A tile's effects. -/
abbrev TE (F : FTy → Type) (L : grid0.Coords) := TpuEff nD τ sig (Elt F) Λ₀ (.scVector ((L 0).castLE hcore0) ((L 1).castLE hsub0))

/-- Whether the tile stages the table, as the kernel computes it. -/
abbrev isFirst (L : grid0.Coords) : BitVec 1 := Scalar.cmpi .ne (Scalar.extui (Scalar.cmpi .eq (BitVec.ofNat 32 (L 1).val) 0#32) : BitVec 32) 0#32

def stage (L : grid0.Coords) : Prog (TE F L) PUnit :=
  if _h : isFirst L = 1#1 then do
    Prog.lift (.enqueueDma tM (.here sM) (.dma cc0_scoped0.sem) (Memref.isWhole_whole _).wordExact (Memref.isWhole_whole _).wordExact ⟨Or.inl rfl, trivial⟩)
    Prog.lift (.waitDma2 cc0_scoped0.sem tM sM (Memref.isWhole_whole _).wordExact (Memref.isWhole_whole _).wordExact)
    pure ⟨⟩
  else do
    pure ⟨⟩

def gatherAt (L : grid0.Coords) (r : Fin 50) : Prog (TE F L) PUnit :=
  SparseCore.enqueueIndirectGather rfl sT (rR r) gathers_S100000_S128 (lR r) rfl cc0_scratch3.sem (View.wordExact_bits rfl) rfl (Or.inr rfl)

def waitAt (L : grid0.Coords) (r : Fin 50) : Prog (TE F L) PUnit :=
  SparseCore.waitIndirectGather cc0_scratch3.sem sT (rR r) (View.wordExact_bits rfl) ((View.wordExact_bits rfl).reshape _ _)

/-- `step` at each row of a list, then `t`. -/
def eachRow {L : grid0.Coords} (step : Fin 50 → Prog (TE F L) PUnit) (l : List (Fin 50)) (t : Prog (TE F L) PUnit) : Prog (TE F L) PUnit :=
  l.foldr (fun r t => step r >>= fun _ => t) t

def writeOut (L : grid0.Coords) : Prog (TE F L) PUnit := do
  Prog.lift (.enqueueDma rM (.here (oB L)) (.dma cc0_scoped2.sem) (Memref.isWhole_whole _).wordExact (View.wordExact_bits rfl) ⟨Or.inl rfl, trivial⟩)
  Prog.lift (.waitDma2 cc0_scoped2.sem rM (oB L) (Memref.isWhole_whole _).wordExact (View.wordExact_bits rfl))
  pure ⟨⟩

def afterStage (L : grid0.Coords) : Prog (TE F L) PUnit := do
  Prog.lift (.enqueueDma (iB L) (.here lM) (.dma cc0_scoped1.sem) (View.wordExact_bits rfl) (Memref.isWhole_whole _).wordExact ⟨Or.inl rfl, trivial⟩)
  Prog.lift (.waitDma2 cc0_scoped1.sem (iB L) lM (View.wordExact_bits rfl) (Memref.isWhole_whole _).wordExact)
  SparseCore.subcoreBarrier sc_bar0 (grid0.bound 1) hsub0
  eachRow (gatherAt L) (List.finRange 50) (eachRow (waitAt L) (List.finRange 50) (writeOut L))

/-- The kernel on a tile, as the body table runs it. -/
abbrev kernelAt (L : grid0.Coords) : Prog (TE F L) PUnit :=
  cc0_gather_kernel L iM (Memref.isWhole_whole _) tM (Memref.isWhole_whole _) oM (Memref.isWhole_whole _) lM (Memref.isWhole_whole _)
    rM (Memref.isWhole_whole _) sM (Memref.isWhole_whole _) cc0_scratch3 cc0_scoped0 cc0_scoped1 cc0_scoped2

set_option maxRecDepth 65536 in
set_option maxHeartbeats 4000000 in
theorem kernelAt_eq (L : grid0.Coords) : kernelAt (F := F) L = (stage L >>= fun _ => afterStage L) := by
  unfold kernelAt cc0_gather_kernel k0_part1 stage
  by_cases h : isFirst L = 1#1
  · rw [dif_pos h, dif_pos h]; rfl
  · rw [dif_neg h, dif_neg h]; rfl

end Cert.Proof.Tpu

end
-- ==== Proof.GatherBatch.lean ====
/-
  Several indirect gathers in flight on ONE semaphore. The library's rule for an indirect gather starts from the
  semaphore's counter at zero, so it has one gather in flight per semaphore. A gather of `o` rows is `o` row transfers
  of one size; here they are issued as the next `o` transfers of a `Transfers.Batch` (Lib/Batch.lean), so that any
  number of gathers may be started before the first is waited for, as long as all their rows have one size.
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending batchBody batch_creditUpdate)

variable {nD : Nat} {τ : Topo} {sig : RefSig} {Ix : Type} [DecidableEq Ix]
variable {F : FTy → Type} {Name : Type} [DecidableEq Name]
variable {U : Type} [URA U] {Lvl : Type} [Preorder Lvl]

local notation "𝕄" => MT nD τ sig Ix (Elt F) Name U Lvl

/-- Two propositions that entail each other are equal. -/
theorem eq_of_ent {P R : sProp 𝕄} (h₁ : P ⊢ R) (h₂ : R ⊢ P) : P = R := BI.Entails.antisymm h₁ h₂

/-- The pending members of a family from `b` on are the next `o` and those from `b + o` on. -/
theorem pending_take {n : ℕ} (Φ : Fin n → sProp 𝕄) (b : ℕ) : ∀ (o : ℕ) (h : b + o ≤ n),
    bigSep (pending b) Φ = iprop((bigSep Finset.univ fun j : Fin o => Φ ⟨b + j.val, lt_of_lt_of_le (Nat.add_lt_add_left j.isLt b) h⟩) ∗ bigSep (pending (b + o)) Φ)
  | 0, _ => by
    rw [show (Finset.univ : Finset (Fin 0)) = ∅ from rfl, BI.bigSep_empty]
    exact (eq_of_ent emp_sep.1 emp_sep.2).symm
  | o + 1, h => by
    rw [pending_take Φ b o (by omega), Transfers.bigSep_pending_step Φ (b + o) (by omega)]
    have hlast : (bigSep Finset.univ fun j : Fin (o + 1) => Φ ⟨b + j.val, lt_of_lt_of_le (Nat.add_lt_add_left j.isLt b) h⟩)
        = iprop(Φ ⟨b + o, by omega⟩ ∗ bigSep Finset.univ fun j : Fin o => Φ ⟨b + j.val, by omega⟩) := by
      rw [Fin.univ_castSuccEmb, Finset.cons_eq_insert, BI.bigSep_insert (by simp), BI.bigSep_map]; rfl
    rw [hlast, ← add_assoc]
    apply eq_of_ent
    · iintro ⟨H1, H2, H3⟩
      isplitl [H1 H2]
      · isplitl [H2] <;> iassumption
      · iexact H3
    · iintro ⟨⟨H2, H1⟩, H3⟩
      isplitl [H1]; · iexact H1
      isplitl [H2] <;> iassumption

variable {Λ : Labels} {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- What row `j` of a gather is issued from: the destination's row, the list's entry, a share of the source. -/
abbrev rowIn (src : Memref sig c.2.kind sp s₀ e) (dst : Memref sig c.2.kind .vmem s e) (hg : s₀.Gathers a s)
    (offs : Memref sig c.2.kind .vmem si .i32) (hn : si.numel = s.size hg.axis') (q : Fin (s.size hg.axis') → PosShare TreeShare) (qo : PosShare TreeShare)
    (fs : Buf (Elt F) (src.view.loc c)) (fd : Buf (Elt F) (dst.view.loc c)) (fo : Buf (Elt F) (offs.view.loc c)) (j : Fin (s.size hg.axis')) : sProp 𝕄 :=
  iprop((dst.view.loc c ↦[(dst.view.slice (s.rowRect hg.axis' j)).set]{fullShare} fd)
    ∗ (offs.view.loc c ↦[{offs.view.emb (si.rowMajor.symm (j.cast hn.symm))}]{qo} fo)
    ∗ (src.view.loc c ↦[src.view.set]{q j} fs))

/-- What it delivers: the row written with the source's row that the entry names, the entry and the share back. -/
abbrev rowOut (src : Memref sig c.2.kind sp s₀ e) (dst : Memref sig c.2.kind .vmem s e) (hg : s₀.Gathers a s)
    (offs : Memref sig c.2.kind .vmem si .i32) (hn : si.numel = s.size hg.axis') (q : Fin (s.size hg.axis') → PosShare TreeShare) (qo : PosShare TreeShare)
    (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop((dst.view.loc c ↦[(dst.view.slice (s.rowRect hg.axis' j)).set]{fullShare}
      ((dst.view.slice (s.rowRect hg.axis' j)).write (Elt F) fd
        (fun i => src.view.read (Elt F) fs (hg.rowIdx (rows (offs.view.read (Elt F) fo) hn hin j) i)) Finset.univ))
    ∗ (offs.view.loc c ↦[{offs.view.emb (si.rowMajor.symm (j.cast hn.symm))}]{qo} fo)
    ∗ (src.view.loc c ↦[src.view.set]{q j} fs))

/-- An indirect gather at the head of a program, issued as the next rows of a batch of `n` row transfers of `N` units,
    `b` of them issued: from each row's destination, entry and source share, and the batch, the program goes on with the
    batch at `b` plus the gather's rows. Each row's delivery must entail what the batch states for it (`hD`). -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q : Fin (s.size hg.axis') → PosShare TreeShare} {qo : PosShare TreeShare}
    {fs : Buf (Elt F) (src.view.loc c)} {fd : Buf (Elt F) (dst.view.loc c)} {fo : Buf (Elt F) (offs.view.loc c)}
    {n : ℕ} {D : Fin n → sProp 𝕄} {b u : ℕ} (ι : Ix) (N : ℕ)
    (hN : ∀ j, (dst.slice (s.rowRect hg.axis' j) (s.stride_rowRect hg.axis' j)).view.dmaCredit = N)
    (hb : b + s.size hg.axis' ≤ n) (hu : u ≤ b * N)
    (hin : ∀ x, (offs.view.read (Elt F) fo x).toNat < s₀.size hg.axis)
    (hD : ∀ j : Fin (s.size hg.axis'), rowOut c src dst hg offs hn q qo fs fd fo hin j ⊢ D ⟨b + j.val, by omega⟩) :
    iprop((bigSep Finset.univ fun j => rowIn c src dst hg offs hn q qo fs fd fo j) ∗ Batch EC c (.dma sem) ι N D b u)
      ⊢ iprop((Batch EC c (.dma sem) ι N D (b + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let row : Fin (s.size hg.axis') → Fin (s₀.size hg.axis) := rows (offs.view.read (Elt F) fo) hn hin
  let rd : Fin (s.size hg.axis') → RowDma τ sig (Elt F) c.2 sem := fun j => gatherRow c src dst hg sem hsrc he hsp hr j (row j)
  let S : Stream nD τ sig (Elt F) :=
    Stream.issued c offs.view hn sem (fun j w => (rowOf (s₀.size hg.axis) w).map (gatherRow c src dst hg sem hsrc he hsp hr j)) 0
  have hA : S.RowsAgree := fun j x x' ρ ρ' h h' => by
    obtain ⟨_, _, rfl⟩ := Option.map_eq_some_iff.mp h
    obtain ⟨_, _, rfl⟩ := Option.map_eq_some_iff.mp h'
    rfl
  have hrd : ∀ j, S.row j (S.word fo j) = some (rd j) := fun j => by
    show (rowOf (s₀.size hg.axis) (offs.view.read (Elt F) fo (S.entry j))).map _ = _
    rw [rowOf_of_lt (hin _)]; rfl
  have hsum : ∑ j, (dst.slice (s.rowRect hg.axis' j) (s.stride_rowRect hg.axis' j)).view.dmaCredit = s.size hg.axis' * N := by
    rw [Finset.sum_congr rfl fun j _ => hN j, Finset.sum_const, Finset.card_univ, Fintype.card_fin, smul_eq_mul]
  -- one row's resources: its destination's row and its right to pay into the batch
  have hrow : ∀ (γ : Fin n → ℕ) (γ₀ : ℕ) (κ : Name) (j : Fin (s.size hg.axis')),
      iprop(inv κ (batchBody EC (c, .dma sem) N D γ γ₀) ∗ rowIn c src dst hg offs hn q qo fs fd fo j ∗ count EC (γ ⟨b + j.val, by omega⟩) 0)
        ⊢ iprop(S.heldEntry qo fo j ∗ (S.heldEntry qo fo j -∗ rowRes c (rd j))) := fun γ γ₀ κ j => by
    iintro ⟨#Hinv, ⟨Hd, Hent, Hs⟩, Hγ⟩
    isplitl [Hent]; · iexact Hent
    iintro Hent
    unfold rowRes
    iexists q j, fs, iprop((dst.view.loc c ↦[(dst.view.slice (s.rowRect hg.axis' j)).set]{fullShare}
      ((dst.view.slice (s.rowRect hg.axis' j)).write (Elt F) fd (fun i => src.view.read (Elt F) fs (hg.rowIdx (row j) i)) Finset.univ)) ∗ S.heldEntry qo fo j)
    isplitl [Hs]; · iexact Hs
    isplitl [Hd Hent]
    · iapply writeUpdate_frame
      isplitl [Hd]
      · iapply (pointsTo_writeUpdate c (v := dst.view.slice (s.rowRect hg.axis' j)) subset_rfl) $$ Hd
      · iexact Hent
    have hout : iprop(((dst.view.loc c ↦[(dst.view.slice (s.rowRect hg.axis' j)).set]{fullShare}
          ((dst.view.slice (s.rowRect hg.axis' j)).write (Elt F) fd (fun i => src.view.read (Elt F) fs (hg.rowIdx (row j) i)) Finset.univ)) ∗ S.heldEntry qo fo j)
        ∗ (src.view.loc c ↦[src.view.set]{q j} fs)) ⊢ D ⟨b + j.val, by omega⟩ := sep_assoc.1.trans (hD j)
    have hcu := batch_creditUpdate EC (g := (c, .dma sem)) (N := N) (D := D) (γ := γ) (γ₀ := γ₀) (ι := κ) ⟨b + j.val, by omega⟩ hout
    rw [← hN j] at hcu
    iapply hcu
    rw [hN j]
    isplitr; · iexact Hinv
    iexact Hγ
  unfold Batch
  iintro ⟨Hrows, %γ, %γ₀, %κ, #Hinv, Hγ, H0, Hcred⟩ Hk
  ihave Hγ' := (Entails.of_eq (pending_take (fun t => (count EC (γ t) 0 : sProp 𝕄)) b (s.size hg.axis') hb)) $$ Hγ
  icases Hγ' with ⟨Hγ, Hrest⟩
  iapply (wp_enqueueIndirectDma 𝒱 c bd Set.univ (qo := qo) (fo := fo) (rd := rd) ι (s.size hg.axis' * N) hA hrd hsum) $$ [Hrows Hγ]
  · unfold Stream.res
    ihave H := Transfers.bigSep_sep_in _ _ _ $$ [Hrows Hγ]; · isplitl [Hrows] <;> iassumption
    iapply (Transfers.bigSep_mono_pers Finset.univ _ _ _ fun j _ => hrow γ γ₀ κ j)
    isplitr; · iexact Hinv
    iexact H
  iintro Hcred'
  iapply Hk
  iexists γ, γ₀, κ
  isplitr; · iexact Hinv
  isplitl [Hrest]; · iexact Hrest
  isplitl [H0]; · iexact H0
  rw [show (b + s.size hg.axis') * N - u = (b * N - u) + s.size hg.axis' * N by rw [Nat.add_mul]; omega, ← tallyAt_add]
  icombine Hcred Hcred' as H
  iexact H

end Cert.Proof.GatherBatch

end
-- ==== Proof.Gathers.lean ====
/-
  The tile's fifty gathers and their fifty waits: 6400 row transfers of one element each on one semaphore, issued and
  waited for as one batch. Each gather is stepped at a symbolic row, and the rows are taken one after the other by one
  loop rule.
-/
module

public import proofs.«01_k».proof.Proof.Program
public import proofs.«01_k».proof.Proof.GatherBatch

@[expose] public section

noncomputable section

namespace Cert.Proof.Tpu

open Cert.KernelIdeal Cert.KernelIdeal.Gen Cert.Proof.GatherBatch

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {F : FTy → Type} [FloatOps F]

local notation "𝕄" => MT nD τ sig (HIx 1) (Elt F) ℕ UU ℕ

/-- The SparseCore and the tile of a grid point, and the tile's thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev EC : UEmb Counters (MT nD τ sig (HIx 1) (Elt F) ℕ UU ℕ) := countersEmb

/-! ## The loop rule -/

/-- A step that takes `I r` to `I (r + 1)` at every row takes `I 0` to `I 50` over all of them. -/
theorem eachRow_wp (d : Dev nD) (L : grid0.Coords) (step : Fin 50 → Prog (TE F L) PUnit) (I : ℕ → sProp 𝕄) (Q : PUnit → sProp 𝕄)
    (hstep : ∀ (r : Fin 50) (t : Prog (TE F L) PUnit),
      I r.val ⊢ iprop((I (r.val + 1) -∗ wp frame (wpE (defs₀ (F := F)) 𝒱₀ (thr d L) none) Set.univ t Q)
        -∗ wp frame (wpE (defs₀ (F := F)) 𝒱₀ (thr d L) none) Set.univ (step r >>= fun _ => t) Q))
    (t : Prog (TE F L) PUnit) :
    ∀ k r : ℕ, r + k = 50 →
      I r ⊢ iprop((I 50 -∗ wp frame (wpE (defs₀ (F := F)) 𝒱₀ (thr d L) none) Set.univ t Q)
        -∗ wp frame (wpE (defs₀ (F := F)) 𝒱₀ (thr d L) none) Set.univ (eachRow step ((List.finRange 50).drop r) t) Q)
  | 0, r, h => by
    obtain rfl : r = 50 := by omega
    rw [List.drop_eq_nil_of_le (by simp)]
    iintro H Hk
    iapply Hk; iexact H
  | k + 1, r, h => by
    have hr : r < 50 := by omega
    rw [List.drop_eq_getElem_cons (by simpa using hr), List.getElem_finRange]
    iintro H Hk
    iapply (hstep ⟨r, hr⟩ (eachRow step ((List.finRange 50).drop (r + 1)) t)) $$ H
    iintro H
    iapply (eachRow_wp d L step I Q hstep t k (r + 1) (by omega)) $$ H
    iexact Hk

/-! ## The batch -/

/-- The rows of a gather, and the whole batch's. -/
abbrev nRow : ℕ := S128.size gathers_S100000_S128.axis'
abbrev nAll : ℕ := 50 * 128

/-- A list entry's index on the list. -/
abbrev ent (k : Fin nRow) : S128.Idx := S128.rowMajor.symm (k.cast (rfl : S128.numel = S128.size gathers_S100000_S128.axis').symm)

/-- Gather `r`'s row `k`'s piece of the tile's share of the shared table. -/
def sq (L : grid0.Coords) (r : Fin 50) (k : Fin nRow) : PosShare TreeShare := pieceOf (pieceOf (shq (jV L)) 50 (by decide) r) nRow (by decide) k

variable (d : Dev nD) (L : grid0.Coords)

/-- What the gathers leave in the row scratch, given the lists and the shared table. -/
def gathered (fi : S50x128.Idx → Elt F .i32) (ft : S100000.Idx → Elt F .f32) : S50x128.Idx → Elt F .f32 := fun x => ft (tIx (fi x))

/-- Row `k` of gather `r`, before and after: one element of the row scratch, one of the lists, a share of the table. -/
abbrev gRow (fi : S50x128.Idx → Elt F .i32) (ft : S100000.Idx → Elt F .f32) (fr : S50x128.Idx → Elt F .f32) (r : Fin 50) (k : Fin nRow) : sProp 𝕄 :=
  rowIn (F := F) (Ix := HIx 1) (Name := ℕ) (U := UU) (Lvl := ℕ) (thr d L) sT (rR r) gathers_S100000_S128 (lR r) rfl (sq L r) fullShare ft fr fi k

theorem div_lt (t : Fin nAll) : t.val / 128 < 50 := by have h : t.val < 50 * 128 := t.isLt; omega
theorem mod_lt (t : Fin nAll) : t.val % 128 < nRow := Nat.mod_lt _ (by decide)
/-- What the batch delivers: each row's element gathered. -/
def gDel (fi : S50x128.Idx → Elt F .i32) (ft : S100000.Idx → Elt F .f32) (t : Fin nAll) : sProp 𝕄 :=
  gRow d L fi ft (gathered fi ft) ⟨t.val / 128, div_lt t⟩ ⟨t.val % 128, mod_lt t⟩

theorem gDel_at (fi : S50x128.Idx → Elt F .i32) (ft : S100000.Idx → Elt F .f32) (r : Fin 50) (k : Fin nRow) (h : 128 * r.val + k.val < nAll) :
    gDel d L fi ft ⟨128 * r.val + k.val, h⟩ = gRow d L fi ft (gathered fi ft) r k := by
  have hk : k.val < 128 := k.isLt
  unfold gDel
  congr 1 <;> apply Fin.ext
  · show (128 * r.val + k.val) / 128 = r.val; omega
  · show (128 * r.val + k.val) % 128 = k.val; omega

instance gDel_storable (fi : S50x128.Idx → Elt F .i32) (ft : S100000.Idx → Elt F .f32) (t : Fin nAll) :
    BI.Storable (upEmb : UEmb _ 𝕄) (gDel d L fi ft t) := by unfold gDel; infer_instance

/-- One row transfer's credit. -/
def nCr : ℕ := ((rR 0).slice (S128.rowRect gathers_S100000_S128.axis' (⟨0, Nat.zero_lt_succ 127⟩ : Fin 128)) (S128.stride_rowRect _ _)).view.dmaCredit

theorem nCr_row (r : Fin 50) (k : Fin nRow) :
    ((rR r).slice (S128.rowRect gathers_S100000_S128.axis' k) (S128.stride_rowRect gathers_S100000_S128.axis' k)).view.dmaCredit = nCr := rfl
theorem nCr_wait (r : Fin 50) : (rR r).view.dmaCredit = 128 * nCr := by decide +revert

/-! ## A row's value -/

/-- A gathered element is the table's at the row its list entry names. -/
theorem row_write (r : Fin 50) (k : Fin nRow) (fi : S50x128.Idx → Elt F .i32) (ft : S100000.Idx → Elt F .f32) (fr : S50x128.Idx → Elt F .f32)
    (hin : ∀ x, ((lR r).view.read (Elt F) fi x).toNat < S100000.size gathers_S100000_S128.axis) (x : S50x128.Idx)
    (hx : x ∈ ((rR r).view.slice (S128.rowRect gathers_S100000_S128.axis' k)).set) :
    ((rR r).view.slice (S128.rowRect gathers_S100000_S128.axis' k)).write (Elt F) fr
      (fun i => sT.view.read (Elt F) ft (gathers_S100000_S128.rowIdx (SparseCore.rows ((lR r).view.read (Elt F) fi) rfl hin k) i)) Finset.univ x
      = gathered fi ft x := by
  obtain ⟨i, -, rfl⟩ := Finset.mem_map.mp hx
  have hi : (S128.rowRect gathers_S100000_S128.axis' k).emb i = ent k := by
    funext a
    obtain rfl : a = 0 := Subsingleton.elim (α := Fin 1) _ _
    apply Fin.ext
    have h1 : ((ent k) 0).val = k.val := by rw [← Shape.rowMajor_val_one, Equiv.apply_symm_apply]; rfl
    have h2 : (i 0).val < 1 := (i 0).isLt
    rw [h1]
    show k.val + 1 * (i 0).val = k.val
    omega
  have hemb : ((rR r).view.slice (S128.rowRect gathers_S100000_S128.axis' k)).emb i = (lR r).view.emb (ent k) := congrArg (rR r).view.emb hi
  refine (View.write_emb_of_mem _ _ (Finset.mem_univ i)).trans ?_
  show ft (sT.view.emb (gathers_S100000_S128.rowIdx (SparseCore.rows ((lR r).view.read (Elt F) fi) rfl hin k) i)) = ft (tIx (fi _))
  rw [hemb]
  congr 1
  funext a
  obtain rfl : a = 0 := Subsingleton.elim (α := Fin 1) _ _
  apply Fin.ext
  show 0 + 1 * (gathers_S100000_S128.rowIdx _ i 0).val = (fi ((lR r).view.emb (ent k))).toNat % 100000
  rw [show (gathers_S100000_S128.rowIdx (SparseCore.rows ((lR r).view.read (Elt F) fi) rfl hin k) i 0) = SparseCore.rows ((lR r).view.read (Elt F) fi) rfl hin k from
    Shape.Gathers.rowIdx_axis gathers_S100000_S128 _ i, Nat.zero_add, Nat.one_mul]
  exact (Nat.mod_eq_of_lt (hin (ent k))).symm

/-! ## One gather, one wait -/

theorem gather_step (fi : S50x128.Idx → Elt F .i32) (ft : S100000.Idx → Elt F .f32) (fr : S50x128.Idx → Elt F .f32)
    (hfi : ∀ x, (fi x).toNat < 100000) (Q : PUnit → sProp 𝕄) (r : Fin 50) (t : Prog (TE F L) PUnit) :
    iprop((bigSep (pending r.val) fun r => bigSep Finset.univ fun k => gRow d L fi ft fr r k)
        ∗ Batch EC (thr d L) (.dma cc0_scratch3.sem) (default : HIx 1) nCr (gDel d L fi ft) (128 * r.val) 0)
      ⊢ iprop((iprop((bigSep (pending (r.val + 1)) fun r => bigSep Finset.univ fun k => gRow d L fi ft fr r k)
              ∗ Batch EC (thr d L) (.dma cc0_scratch3.sem) (default : HIx 1) nCr (gDel d L fi ft) (128 * (r.val + 1)) 0)
            -∗ wp frame (wpE (defs₀ (F := F)) 𝒱₀ (thr d L) none) Set.univ t Q)
          -∗ wp frame (wpE (defs₀ (F := F)) 𝒱₀ (thr d L) none) Set.univ (gatherAt L r >>= fun _ => t) Q) := by
  have hr : r.val < 50 := r.isLt
  have hin : ∀ x, ((lR r).view.read (Elt F) fi x).toNat < S100000.size gathers_S100000_S128.axis := fun x => hfi _
  rw [Transfers.bigSep_pending_step _ r.val hr]
  iintro ⟨⟨Hrow, Hrest⟩, HB⟩ Hk
  iapply (wp_gatherBatch (n := nAll) (D := gDel d L fi ft) (b := 128 * r.val) (u := 0) EC 𝒱₀ (thr d L) none (default : HIx 1) nCr (nCr_row r)
      (show 128 * r.val + 128 ≤ 50 * 128 by omega) (Nat.zero_le _) hin
      (fun k => by
        rw [gDel_at]
        exact BI.sep_mono (Entails.of_eq (pointsTo_congr (row_write r k fi ft fr hin))) (BI.Entails.refl _))) $$ [Hrow HB]
  · isplitl [Hrow]; · iexact Hrow
    iexact HB
  iintro HB
  iapply Hk
  isplitl [Hrest]; · iexact Hrest
  iexact HB

theorem wait_step (fi : S50x128.Idx → Elt F .i32) (ft : S100000.Idx → Elt F .f32) (O : CellTallies nD τ sig (HIx 1)) (hO : ∀ g, O g none = 0)
    (W : Waits sig (HIx 1)) (Q : PUnit → sProp 𝕄) (r : Fin 50) (t : Prog (TE F L) PUnit) :
    iprop(levAts (K (F := F)).L (K (F := F)).lev
        ∗ Batch EC (thr d L) (.dma cc0_scratch3.sem) (default : HIx 1) nCr (gDel d L fi ft) nAll (r.val * (128 * nCr))
        ∗ ∃ W', ⌜∀ p ∈ W', p ∈ W ∨ p.2 = none⌝ ∗ owes (thr d L) O W')
      ⊢ iprop((iprop(levAts (K (F := F)).L (K (F := F)).lev
              ∗ Batch EC (thr d L) (.dma cc0_scratch3.sem) (default : HIx 1) nCr (gDel d L fi ft) nAll ((r.val + 1) * (128 * nCr))
              ∗ ∃ W', ⌜∀ p ∈ W', p ∈ W ∨ p.2 = none⌝ ∗ owes (thr d L) O W')
            -∗ wp frame (wpE (defs₀ (F := F)) 𝒱₀ (thr d L) none) Set.univ t Q)
          -∗ wp frame (wpE (defs₀ (F := F)) 𝒱₀ (thr d L) none) Set.univ (waitAt L r >>= fun _ => t) Q) := by
  have hr : r.val < 50 := r.isLt
  iintro ⟨#Hlv, HB, %W', %hW', HO⟩ Hk
  rw [show (waitAt L r >>= fun _ => t) = (.op (.waitDma2 cc0_scratch3.sem sT (rR r) (View.wordExact_bits rfl) ((View.wordExact_bits rfl).reshape _ _)) fun _ => t : Prog (TE F L) PUnit) from rfl]
  ihave Hmw := (show levAts (K (F := F)).L (K (F := F)).lev ⊢ MayWait (thr d L) (.dma cc0_scratch3.sem) (default : HIx 1) O from
    ((K (F := F)).mayWaits_none (thr := thr d L) hO).trans (Transfers.MayWaits.elim (SemLoc.dma cc0_scratch3.sem))) $$ Hlv
  iapply (Transfers.wp_waitBatchMulO (n := nAll) (D := gDel d L fi ft) (j := nAll) (u := r.val * (128 * nCr)) EC 𝒱₀ (thr d L) none (default : HIx 1)
      (N := nCr) 128 (nCr_wait r) (by
        show r.val * (128 * nCr) + 128 * nCr ≤ nCr * (50 * 128)
        rw [← Nat.succ_mul, ← Nat.mul_assoc, Nat.mul_comm nCr]
        exact Nat.mul_le_mul_right _ (by omega)) (O := O) (W := W')) $$ [HB HO]
  · isplitl [HB]; · iexact HB
    isplitl [HO]; · iexact HO
    iexact Hmw
  iintro ⟨HB, HO⟩
  iapply Hk
  isplitr; · iexact Hlv
  isplitl [HB]; · rw [Nat.succ_mul r.val (128 * nCr)]; iexact HB
  iexists _
  isplitr; swap; · iexact HO
  ipureintro
  intro p hp
  rcases Finset.mem_insert.mp hp with rfl | hp
  · exact .inr rfl
  · exact hW' p hp

end Cert.Proof.Tpu

end
-- ==== Proof.GatherAll.lean ====
/-
  All fifty gathers and their waits as one step: from the row scratch, the lists, a share of the shared table and the
  semaphore at zero, to the row scratch gathered and the rest back.
-/
module

public import proofs.«01_k».proof.Proof.Gathers

@[expose] public section

noncomputable section

namespace Cert.Proof.Tpu

open Cert.KernelIdeal Cert.KernelIdeal.Gen Cert.Proof.GatherBatch

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {F : FTy → Type} [FloatOps F]

local notation "𝕄" => MT nD τ sig (HIx 1) (Elt F) ℕ UU ℕ

variable (d : Dev nD) (L : grid0.Coords)

/-- The tile's list and row scratch, and the shared table as it names it. -/
abbrev lLoc : Loc nD τ sig := (thr d L).loc cc0_scratch0
abbrev rLoc : Loc nD τ sig := (thr d L).loc cc0_scratch1

/-! ## Rows of the scratch -/

theorem hdivR : 50 ∣ S50x128.size 0 := ⟨1, rfl⟩
theorem rowK_eq (r : Fin 50) : rowK r = Rect.part (s := S50x128) (a₀ := 0) hdivR r := by
  unfold rowK Rect.part Rect.block
  congr 1 <;> funext a
  · rw [k0_off2_eq]
    match a with
    | 0 => simp [Shape.partIx, Shape.partSize]
    | 1 => simp [Shape.partIx, Shape.partSize]
  · match a with
    | 0 => simp [Shape.partSize]
    | 1 => simp [Shape.partSize]

theorem set_rR (r : Fin 50) : (rR r).view.set = (Rect.part (s := S50x128) (a₀ := 0) hdivR r).set := by
  show ((rM.view.slice (rowK r)).reshape S128 squeezes_S1x128_S128.numel_eq).set = _
  rw [View.set_reshape, View.set_slice]
  exact Finset.map_refl.trans (congrArg (fun K : Rect S50x128 => K.set) (rowK_eq r))
theorem set_lR (r : Fin 50) : (lR r).view.set = (Rect.part (s := S50x128) (a₀ := 0) hdivR r).set := by
  show ((lM.view.slice (rowK r)).reshape S128 squeezes_S1x128_S128.numel_eq).set = _
  rw [View.set_reshape, View.set_slice]
  exact Finset.map_refl.trans (congrArg (fun K : Rect S50x128 => K.set) (rowK_eq r))
theorem set_sT : sT.view.set = Finset.univ := by
  show (sM.view.slice (Rect.unit (s := S100000) ![0] S100000.size inb_S100000_S100000_0)).set = _
  rw [View.set_slice]
  refine Finset.map_refl.trans (Finset.eq_univ_iff_forall.mpr fun x => Rect.mem_set_unit.mpr fun a => ?_)
  obtain rfl : a = 0 := Subsingleton.elim (α := Fin 1) _ _
  exact ⟨Nat.zero_le _, lt_of_lt_of_eq (x 0).isLt (Nat.zero_add _).symm⟩

theorem ent_bijective : Function.Bijective ent :=
  (S128.rowMajor.symm).bijective.comp (finCongr (rfl : S128.numel = S128.size gathers_S100000_S128.axis').symm).bijective

theorem rScratch_rows (f : Buf (Elt F) (rLoc d L)) : (rLoc d L ↦{fullShare} f : sProp 𝕄)
    = bigSep Finset.univ fun r : Fin 50 => bigSep Finset.univ fun k : Fin nRow =>
        (rR r).view.loc (thr d L) ↦[((rR r).view.slice (S128.rowRect gathers_S100000_S128.axis' k)).set]{fullShare} f := by
  rw [show (bigSep Finset.univ fun r : Fin 50 => bigSep Finset.univ fun k : Fin nRow =>
        ((rR r).view.loc (thr d L) ↦[((rR r).view.slice (S128.rowRect gathers_S100000_S128.axis' k)).set]{fullShare} f : sProp 𝕄))
      = bigSep Finset.univ fun r : Fin 50 => (rLoc d L ↦[(Rect.part (s := S50x128) (a₀ := 0) hdivR r).set]{fullShare} f : sProp 𝕄) from
    bigSep_congr fun r _ => (pointsTo_rows (thr d L) (rR r).view gathers_S100000_S128.axis' fullShare f).symm.trans (by rw [set_rR])]
  rw [← pointsTo_biUnion Finset.univ _ fun r _ r' _ h => Rect.part_disjoint hdivR h, Rect.biUnion_part hdivR]

theorem lScratch_entries (f : Buf (Elt F) (lLoc d L)) : (lLoc d L ↦{fullShare} f : sProp 𝕄)
    = bigSep Finset.univ fun r : Fin 50 => bigSep Finset.univ fun k : Fin nRow => (lR r).view.loc (thr d L) ↦[{(lR r).view.emb (ent k)}]{fullShare} f := by
  rw [show (bigSep Finset.univ fun r : Fin 50 => bigSep Finset.univ fun k : Fin nRow =>
        ((lR r).view.loc (thr d L) ↦[{(lR r).view.emb (ent k)}]{fullShare} f : sProp 𝕄))
      = bigSep Finset.univ fun r : Fin 50 => (lLoc d L ↦[(Rect.part (s := S50x128) (a₀ := 0) hdivR r).set]{fullShare} f : sProp 𝕄) from
    bigSep_congr fun r _ => (pointsTo_entries (thr d L) (lR r).view ent ent_bijective fullShare f).symm.trans (by rw [set_lR])]
  rw [← pointsTo_biUnion Finset.univ _ fun r _ r' _ h => Rect.part_disjoint hdivR h, Rect.biUnion_part hdivR]

theorem table_pieces (f : Buf (Elt F) (shLoc d (cV L))) : (shLoc d (cV L) ↦{shq (jV L)} f : sProp 𝕄)
    = bigSep Finset.univ fun r : Fin 50 => bigSep Finset.univ fun k : Fin nRow => sT.view.loc (thr d L) ↦[sT.view.set]{sq L r k} f := by
  rw [set_sT]
  refine (pointsTo_piecesOf _ f (by decide : 0 < 50) _).trans (bigSep_congr fun r _ => ?_)
  exact pointsTo_piecesOf _ f (by decide : 0 < nRow) _

theorem gRows_eq (fi : Buf (Elt F) (lLoc d L)) (ft : Buf (Elt F) (shLoc d (cV L))) (fr : Buf (Elt F) (rLoc d L)) :
    (bigSep Finset.univ fun r : Fin 50 => bigSep Finset.univ fun k : Fin nRow => gRow d L fi ft fr r k)
      = iprop((rLoc d L ↦{fullShare} fr) ∗ (lLoc d L ↦{fullShare} fi) ∗ (shLoc d (cV L) ↦{shq (jV L)} ft) : sProp 𝕄) := by
  rw [rScratch_rows, lScratch_entries, table_pieces, ← bigSep_sep', ← bigSep_sep']
  refine bigSep_congr fun r _ => ?_
  rw [← bigSep_sep', ← bigSep_sep']
  rfl

theorem gDel_all (fi : S50x128.Idx → Elt F .i32) (ft : S100000.Idx → Elt F .f32) :
    bigSep Finset.univ (gDel d L fi ft) = bigSep Finset.univ fun r : Fin 50 => bigSep Finset.univ fun k : Fin nRow => gRow d L fi ft (gathered fi ft) r k := by
  rw [bigSep_univ_equiv (finProdFinEquiv : Fin 50 × Fin 128 ≃ Fin (50 * 128)) (gDel d L fi ft), bigSep_univ_prod]
  refine bigSep_congr fun r _ => bigSep_congr fun k _ => ?_
  have hk : k.val < 128 := k.isLt
  have hr : r.val < 50 := r.isLt
  rw [← gDel_at d L fi ft r k (show 128 * r.val + k.val < 50 * 128 by omega)]
  congr 1
  exact Fin.ext (Nat.add_comm _ _)

/-! ## The whole -/

theorem gathers_wp (fi : Buf (Elt F) (lLoc d L)) (ft : Buf (Elt F) (shLoc d (cV L))) (fr : Buf (Elt F) (rLoc d L))
    (hfi : ∀ x, (fi x : BitVec 32).toNat < 100000) (O : CellTallies nD τ sig (HIx 1)) (hO : ∀ g, O g none = 0)
    (W : Waits sig (HIx 1)) (Q : PUnit → sProp 𝕄) (t : Prog (TE F L) PUnit) :
    iprop(levAts (K (F := F)).L (K (F := F)).lev
        ∗ ((rLoc d L ↦{fullShare} fr) ∗ (lLoc d L ↦{fullShare} fi) ∗ (shLoc d (cV L) ↦{shq (jV L)} ft))
        ∗ semVal (thr d L, .dma cc0_scratch3.sem) 0 ∗ owes (thr d L) O W)
      ⊢ iprop((iprop(((rLoc d L ↦{fullShare} gathered fi ft) ∗ (lLoc d L ↦{fullShare} fi) ∗ (shLoc d (cV L) ↦{shq (jV L)} ft))
            ∗ semVal (thr d L, .dma cc0_scratch3.sem) 0 ∗ ∃ W', ⌜∀ p ∈ W', p ∈ W ∨ p.2 = none⌝ ∗ owes (thr d L) O W')
          -∗ wp frame (wpE (defs₀ (F := F)) 𝒱₀ (thr d L) none) Set.univ t Q)
        -∗ wp frame (wpE (defs₀ (F := F)) 𝒱₀ (thr d L) none) Set.univ
            (eachRow (gatherAt L) (List.finRange 50) (eachRow (waitAt L) (List.finRange 50) t)) Q) := by
  rw [← gRows_eq, ← gRows_eq]
  iintro ⟨#Hlv, Hrows, Hsem, HO⟩ Hk
  imod (Transfers.batch_alloc' EC (thr d L) (default : HIx 1) nCr (gDel d L fi ft) (E := Set.univ)) $$ Hsem with HB
  ihave HI : iprop((bigSep (pending 0) fun r => bigSep Finset.univ fun k => gRow d L fi ft fr r k)
      ∗ Batch EC (thr d L) (.dma cc0_scratch3.sem) (default : HIx 1) nCr (gDel d L fi ft) (128 * 0) 0) $$ [Hrows HB]
  · rw [Transfers.pending_zero]
    isplitl [Hrows]; · iexact Hrows
    iexact HB
  iapply (eachRow_wp d L (gatherAt L) (fun r => iprop((bigSep (pending r) fun r => bigSep Finset.univ fun k => gRow d L fi ft fr r k)
      ∗ Batch EC (thr d L) (.dma cc0_scratch3.sem) (default : HIx 1) nCr (gDel d L fi ft) (128 * r) 0)) Q (gather_step d L fi ft fr hfi Q) _ 50 0 rfl) $$ HI
  iintro ⟨-, HB⟩
  ihave HI : iprop(levAts (K (F := F)).L (K (F := F)).lev
        ∗ Batch EC (thr d L) (.dma cc0_scratch3.sem) (default : HIx 1) nCr (gDel d L fi ft) nAll (0 * (128 * nCr))
        ∗ ∃ W', ⌜∀ p ∈ W', p ∈ W ∨ p.2 = none⌝ ∗ owes (thr d L) O W') $$ [HB HO]
  · isplitr; · iexact Hlv
    isplitl [HB]; · rw [Nat.zero_mul]; iexact HB
    iexists W
    isplitr; · ipureintro; exact fun p hp => .inl hp
    iexact HO
  iapply (eachRow_wp d L (waitAt L) (fun r => iprop(levAts (K (F := F)).L (K (F := F)).lev
        ∗ Batch EC (thr d L) (.dma cc0_scratch3.sem) (default : HIx 1) nCr (gDel d L fi ft) nAll (r * (128 * nCr))
        ∗ ∃ W', ⌜∀ p ∈ W', p ∈ W ∨ p.2 = none⌝ ∗ owes (thr d L) O W')) Q (wait_step d L fi ft O hO W Q) t 50 0 rfl) $$ HI
  iintro ⟨-, HB, HO⟩
  imod (Transfers.batch_collect' EC (thr d L) (sm := .dma cc0_scratch3.sem) (ι := (default : HIx 1)) (N := nCr) (D := gDel d L fi ft) (by decide)) $$ [HB] with ⟨HD, Hsem⟩
  · rw [show nCr * nAll = 50 * (128 * nCr) by show nCr * (50 * 128) = 50 * (128 * nCr); omega]; iexact HB
  iapply Hk
  isplitl [HD]; · iapply (Entails.of_eq (gDel_all d L fi ft)); iexact HD
  isplitl [Hsem]; · iexact Hsem
  iexact HO

end Cert.Proof.Tpu

end
-- ==== Proof.Tile.lean ====
/-
  A tile's task. Tile 0 of a SparseCore copies the table into the shared memory and hands every tile a share of the copy
  through the barrier. A tile fetches its columns of the indices, gathers their rows of the copy, and writes them out.
-/
module

public import proofs.«01_k».proof.Proof.GatherAll

@[expose] public section

noncomputable section

namespace Cert.Proof.Tpu

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (m : (ℓ : Loc nD τ sig) → Buf (Elt F) ℓ) (d : Dev nD) (L : grid0.Coords)

/-! ## The tile's columns -/

theorem blkK_eq : blkK L = col (wid (cV L) (jV L)) := by
  unfold blkK col Rect.part Rect.block
  congr 1 <;> funext a
  · rw [k0_off1_eq]
    match a with
    | 0 => simp [Shape.partIx, Shape.partSize]
    | 1 =>
      simp [Shape.partIx, Shape.partSize, wid]
      omega
  · match a with
    | 0 => simp [Shape.partSize]
    | 1 => simp [Shape.partSize]

theorem set_iB : (iB L).view.set = colSet (cV L) (jV L) := by
  show (iM.view.slice (blkK L)).set = _
  rw [View.set_slice]
  exact Finset.map_refl.trans (congrArg (fun K : Rect S50x4096 => K.set) (blkK_eq L))
theorem set_oB : (oB L).view.set = colSet (cV L) (jV L) := by
  show (oM.view.slice (blkK L)).set = _
  rw [View.set_slice]
  exact Finset.map_refl.trans (congrArg (fun K : Rect S50x4096 => K.set) (blkK_eq L))

theorem pts_iB (f : Buf (Elt F) (iLoc d)) :
    ((iB L).view.loc (thr d L) ↦[(iB L).view.set]{fullShare} f : sProp 𝕄) = iLoc d ↦[colSet (cV L) (jV L)]{fullShare} f := by
  rw [set_iB]
theorem pts_oB (f : Buf (Elt F) (oLoc d)) :
    ((oB L).view.loc (thr d L) ↦[(oB L).view.set]{fullShare} f : sProp 𝕄) = oLoc d ↦[colSet (cV L) (jV L)]{fullShare} f := by
  rw [set_oB]

/-- The lists a tile fetches: its columns of the indices. -/
def fetched : S50x128.Idx → Elt F .i32 := fun x => iC m d ((blkK L).emb x)

/-- Contents that read as the gathered rows through the tile's columns are the result there. -/
theorem written (g : Buf (Elt F) (oLoc d)) (hg : ∀ i, (oB L).view.read (Elt F) g i = gathered (fetched m d L) (tC m d) i) (x : S50x4096.Idx)
    (hx : x ∈ colSet (cV L) (jV L)) : g x = oC m d x := by
  rw [← set_oB] at hx
  obtain ⟨i, -, rfl⟩ := Finset.mem_map.mp hx
  exact hg i

/-! ## The tile's own buffers and semaphores -/

abbrev gCell (d : Dev nD) (L : grid0.Coords) : GSem nD τ sig := (thr d L, .dma cc0_scratch3.sem)
abbrev aCell (d : Dev nD) (L : grid0.Coords) : GSem nD τ sig := (thr d L, .dma cc0_scoped0.sem)
abbrev bCell (d : Dev nD) (L : grid0.Coords) : GSem nD τ sig := (thr d L, .dma cc0_scoped1.sem)
abbrev oCell (d : Dev nD) (L : grid0.Coords) : GSem nD τ sig := (thr d L, .dma cc0_scoped2.sem)

theorem mem_own (s : DmaSem sig) (h : (SemLoc.dma s : SemLoc sig).isScoped .scVector = true) :
    ((thr d L, .dma s) : GSem nD τ sig) ∈ ownCells (thr d L) := mem_ownCells.mpr ⟨rfl, h⟩

theorem cell_ne {s s' : DmaSem sig} (h : s ≠ s') : ((thr d L, .dma s) : GSem nD τ sig) ≠ (thr d L, .dma s') :=
  fun e => h (by injection (Prod.mk.inj e).2)

abbrev restCells (d : Dev nD) (L : grid0.Coords) : Finset (GSem nD τ sig) :=
  ((((ownCells (thr d L)).erase (gCell d L)).erase (aCell d L)).erase (bCell d L)).erase (oCell d L)

theorem ownSems0_V : (ownSems0 (thr d L) : sProp 𝕄)
    = iprop(semVal (gCell d L) 0 ∗ semVal (aCell d L) 0 ∗ semVal (bCell d L) 0 ∗ semVal (oCell d L) 0 ∗ bigSep (restCells d L) fun g => semVal g 0) := by
  unfold SparseCore.Cfg.ownSems0
  rw [SparseCore.bigSep_erase' (mem_own d L cc0_scratch3.sem (by decide)),
    SparseCore.bigSep_erase' (Finset.mem_erase.mpr ⟨cell_ne d L (by decide), mem_own d L cc0_scoped0.sem (by decide)⟩),
    SparseCore.bigSep_erase' (Finset.mem_erase.mpr ⟨cell_ne d L (by decide), Finset.mem_erase.mpr ⟨cell_ne d L (by decide), mem_own d L cc0_scoped1.sem (by decide)⟩⟩),
    SparseCore.bigSep_erase' (Finset.mem_erase.mpr ⟨cell_ne d L (by decide), Finset.mem_erase.mpr ⟨cell_ne d L (by decide),
      Finset.mem_erase.mpr ⟨cell_ne d L (by decide), mem_own d L cc0_scoped2.sem (by decide)⟩⟩⟩)]

abbrev lRef (L : grid0.Coords) : DevRef τ sig := (Proc.scVector (cV L) (jV L)).devRef cc0_scratch0
abbrev rRef (L : grid0.Coords) : DevRef τ sig := (Proc.scVector (cV L) (jV L)).devRef cc0_scratch1

theorem ownBufs_V : (ownBufs (thr d L) : sProp 𝕄)
    = iprop((∃ f, lLoc d L ↦{fullShare} f) ∗ (∃ f, rLoc d L ↦{fullShare} f)
        ∗ bigSep (((ownRefs (τ := τ) (.scVector (cV L) (jV L))).erase (lRef L)).erase (rRef L)) fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := lRef L) rfl),
    SparseCore.bigSep_erase' (Finset.mem_erase.mpr ⟨fun e => by simp [lRef, rRef, Proc.devRef] at e, SparseCore.Cfg.mem_ownRefs_of_owner (p := Proc.scVector (cV L) (jV L)) (b := rRef L) rfl⟩)]

/-! ## Staging the table -/

theorem isFirst_iff : ∀ L : grid0.Coords, isFirst L = 1#1 ↔ (L 1).val = 0 := by decide +kernel

/-- What a tile hands each tile of its SparseCore at the barrier. -/
abbrev pays : sProp 𝕄 := bigSep Finset.univ fun j : Fin (grid0.bound 1) => (bRd m).payload (bcell d (cV L) (j.castLE hsub0)) 0 (jV L).val

theorem pays_first (h : (L 1).val = 0) : (shLoc d (cV L) ↦{fullShare} tC m d : sProp 𝕄) ⊢ pays m d L := by
  have hp : ∀ j : Fin (grid0.bound 1), (bRd m).payload (bcell d (cV L) (j.castLE hsub0)) 0 (jV L).val = shPts m d (cV L) (j.castLE hsub0) := fun j => if_pos h
  rw [show pays m d L = bigSep Finset.univ fun j : Fin (grid0.bound 1) => shPts m d (cV L) (j.castLE hsub0) from bigSep_congr fun j _ => hp j]
  refine Entails.of_eq ((pointsTo_piecesOf _ _ (by decide : 0 < τ.nSub) fullShare).trans ?_)
  exact bigSep_univ_equiv (finCongr (by decide : grid0.bound 1 = τ.nSub)) (fun i => shPts m d (cV L) i)

theorem pays_rest (h : (L 1).val ≠ 0) : (iprop(emp) : sProp 𝕄) ⊢ pays m d L := by
  have hp : ∀ j : Fin (grid0.bound 1), (bRd m).payload (bcell d (cV L) (j.castLE hsub0)) 0 (jV L).val = iprop(emp) := fun j => if_neg h
  rw [show pays m d L = bigSep Finset.univ fun j : Fin (grid0.bound 1) => iprop(emp) from bigSep_congr fun j _ => hp j]
  exact Entails.of_eq (bigSep_emp_const _).symm

theorem pays_elim : (bigSep ((bRd m).duties (bcell d (cV L) (jV L)) 0 \ ∅) fun n => (bRd m).payload (bcell d (cV L) (jV L)) 0 n)
    ⊢ shPts m d (cV L) (jV L) := by
  rw [Finset.sdiff_empty, bRd_duties₀]
  refine BI.Entails.trans (bigSep_elim (Φ := fun n => (bRd m).payload (bcell d (cV L) (jV L)) 0 n) (i := (0 : ℕ)) (Finset.mem_image.mpr ⟨(⟨0, by decide⟩ : Fin τ.nSub), Finset.mem_univ _, rfl⟩)) ?_
  have hp : (bRd m).payload (bcell d (cV L) (jV L)) 0 0 = shPts m d (cV L) (jV L) := by
    show (if (0 : ℕ) = 0 then shPts m d (cV L) (jV L) else iprop(emp)) = _
    rw [if_pos rfl]
  exact Entails.of_eq hp

theorem stage_wp (O : CellTallies nD τ sig (HIx 1)) (W : Waits sig (HIx 1)) (hO : ∀ g, O g none = 0) (Q : PUnit → sProp 𝕄) (t : Prog (TE F L) PUnit) :
    iprop(levAts (K (F := F)).L (K (F := F)).lev ∗ tPts m d (cV L) (jV L) ∗ shIn d (cV L) (jV L) ∗ semVal (aCell d L) 0 ∗ owes (thr d L) O W)
      ⊢ iprop((iprop(tPts m d (cV L) (jV L) ∗ pays m d L ∗ semVal (aCell d L) 0 ∗ ∃ W', ⌜∀ p ∈ W', p ∈ W ∨ p.2 = none⌝ ∗ owes (thr d L) O W')
            -∗ wp frame (wpE (defs₀ (F := F)) 𝒱₀ (thr d L) none) Set.univ t Q)
          -∗ wp frame (wpE (defs₀ (F := F)) 𝒱₀ (thr d L) none) Set.univ (stage L >>= fun _ => t) Q) := by
  unfold stage shIn
  by_cases h : isFirst L = 1#1
  · rw [dif_pos h, if_pos (show (jV L).val = 0 from (isFirst_iff L).mp h)]
    iintro ⟨#Hlv, Ht, ⟨%fs, Hsh⟩, Hsem, HO⟩ Hk
    ihave Hmw := (show levAts (K (F := F)).L (K (F := F)).lev ⊢ Transfers.MayWaits (thr d L) (default : HIx 1) O from
      (K (F := F)).mayWaits_none (thr := thr d L) hO) $$ Hlv
    ihave Ht' := (show (tPts m d (cV L) (jV L) : sProp 𝕄) ⊢ tM.view.loc (thr d L) ↦{tq (cV L) (jV L)} tC m d from BI.Entails.refl _) $$ Ht
    ihave Hsh' := (show (shLoc d (cV L) ↦{fullShare} fs : sProp 𝕄) ⊢ sM.view.loc (thr d L) ↦{fullShare} fs from BI.Entails.refl _) $$ Hsh
    sl_exec
    iapply Hk
    isplitl [Ht']; · iexact Ht'
    isplitl [Hsh']
    · iapply (pays_first m d L ((isFirst_iff L).mp h))
      have hw : sM.view.write (Elt F) fs (stage_wp.sl.dma0 m d) Finset.univ = tC m d := by
        unfold stage_wp.sl.dma0; exact View.write_whole_univ (Val := Elt F) (cc0_scratch2 : Ref sig .scVector) fs _
      iapply (Entails.of_eq (congrArg (fun f => (shLoc d (cV L) ↦{fullShare} f : sProp 𝕄)) hw))
      iexact Hsh'
    isplitl [Hsem]; · iexact Hsem
    iexists _
    isplitr; swap; · iexact HO
    ipureintro
    intro p hp
    rcases Finset.mem_insert.mp hp with rfl | hp
    · exact .inr rfl
    · exact .inl hp
  · rw [dif_neg h, if_neg (show ¬ (jV L).val = 0 from fun e => h ((isFirst_iff L).mpr e))]
    iintro ⟨#Hlv, Ht, -, Hsem, HO⟩ Hk
    iapply Hk
    isplitl [Ht]; · iexact Ht
    isplitr; · iapply (pays_rest m d L fun e => h ((isFirst_iff L).mpr e)); iempintro
    isplitl [Hsem]; · iexact Hsem
    iexists W
    isplitr; · ipureintro; exact fun p hp => .inl hp
    iexact HO

/-! ## The task -/

set_option maxHeartbeats 4000000 in
theorem tile_body (hidx : ∀ x, (iC m d x : BitVec 32).toNat < 100000) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L) ∗ tIn m d (cV L) (jV L)
        ∗ scopedBufs (thr d L) ∗ scopedSems0 (thr d L) ∗ owes (thr d L) (O + oxV d (cV L)) W)
      ⊢ wp frame (wpE (defs₀ (F := F)) 𝒱₀ (thr d L) none) Set.univ (kernelAt L)
          fun _ => iprop(tOut m d (cV L) (jV L) ∗ scopedBufs (thr d L) ∗ scopedSems0 (thr d L)
            ∗ ∃ W', ⌜∀ p ∈ W', p ∈ W ∨ p.2 = none ∨ p.2 = some (0 : Fin 1)⌝ ∗ owes (thr d L) O W') := by
  rw [kernelAt_eq, (K (F := F)).scopedBufs_V hF d (cV L) (jV L), SparseCore.Cfg.scopedSems0_V (Val := Elt F) d (cV L) (jV L), ownSems0_V, ownBufs_V]
  unfold bkit
  iintro ⟨#Hlv, ⟨⟨%κ, #Hinv⟩, Htoks, #Hrch, Hat, Hcred⟩, ⟨Hi, ⟨%fo, Ho⟩, Ht, Hsh⟩, ⟨⟨%fl, Hl⟩, ⟨%fr, Hr⟩, Hbufs⟩, ⟨HsemG, HsemA, HsemB, HsemO, Hsems⟩, HO⟩
  have hO' : ∀ g, (O + oxV d (cV L)) g none = 0 := fun g => by rw [Pi.add_apply, Finsupp.add_apply, hO g, oxV_none]
  -- the staging
  iapply (stage_wp m d L (O + oxV d (cV L)) W hO' _ (afterStage L)) $$ [Ht Hsh HsemA HO]
  · isplitr; · iexact Hlv
    isplitl [Ht]; · iexact Ht
    isplitl [Hsh]; · iexact Hsh
    isplitl [HsemA]; · iexact HsemA
    iexact HO
  iintro ⟨Ht, Hpays, HsemA, %W₁, %hW₁, HO⟩
  -- the fetch of the lists
  ihave Hmw := (show levAts (K (F := F)).L (K (F := F)).lev ⊢ Transfers.MayWaits (thr d L) (default : HIx 1) (O + oxV d (cV L)) from
    (K (F := F)).mayWaits_none (thr := thr d L) hO') $$ Hlv
  ihave Hi' := (Entails.of_eq (pts_iB (F := F) d L _).symm) $$ Hi
  ihave Hl' := (show (lLoc d L ↦{fullShare} fl : sProp 𝕄) ⊢ lM.view.loc (thr d L) ↦{fullShare} fl from BI.Entails.refl _) $$ Hl
  unfold afterStage
  sl_exec
  have hl : lM.view.write (Elt F) fl (tile_body.sl.dma0 m d L) Finset.univ = fetched m d L := by
    unfold tile_body.sl.dma0; exact View.write_whole_univ (Val := Elt F) (cc0_scratch0 : Ref sig .scVector) fl _
  -- the barrier
  iapply (SparseCore.wp_subcoreBarrier 𝒱₀ none EB (bRd m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := thr d L) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd m) (g := bcell d (cV L) (jV L)) (Set.mem_univ (κ _)) (fun h => h) (bRd_duties_succ m _)) $$ [Hat] with Hbar
  · isplitr
    · iapply (SparseCore.ent (bigSep_elim (Φ := fun j : Fin (grid0.bound 1) =>
        (cellInv EB (bRd m) (κ (bcell d (cV L) (j.castLE hsub0))) (bcell d (cV L) (j.castLE hsub0)) : sProp 𝕄)) (Finset.mem_univ (L 1)))); iexact Hinv
    · iexact Hat
  ihave Htab := (pays_elim m d L) $$ Hgot
  -- the gathers and their waits
  iapply (gathers_wp d L (fetched m d L) (tC m d) fr (fun x => hidx _) O hO _ _ (writeOut L)) $$ [Hr Hl' Htab HsemG HO]
  · isplitr; · iexact Hlv
    isplitl [Hr Hl' Htab]
    · isplitl [Hr]; · iexact Hr
      isplitl [Hl']
      · iapply (Entails.of_eq (congrArg (fun f => (lLoc d L ↦{fullShare} f : sProp 𝕄)) hl))
        iexact Hl'
      iexact Htab
    isplitl [HsemG]; · iexact HsemG
    iexact HO
  iintro ⟨⟨Hr, Hl, Htab⟩, HsemG, %W₂, %hW₂, HO⟩
  -- the write-out
  ihave Hmw2 := (show levAts (K (F := F)).L (K (F := F)).lev ⊢ Transfers.MayWaits (thr d L) (default : HIx 1) O from
    (K (F := F)).mayWaits_none (thr := thr d L) hO) $$ Hlv
  ihave Ho' := (Entails.of_eq (pts_oB (F := F) d L _).symm) $$ Ho
  ihave Hr' := (show (rLoc d L ↦{fullShare} gathered (fetched m d L) (tC m d) : sProp 𝕄) ⊢ rM.view.loc (thr d L) ↦{fullShare} gathered (fetched m d L) (tC m d) from BI.Entails.refl _) $$ Hr
  unfold writeOut
  sl_exec
  sl_step
  isplitl [Hi' Ho' Ht Htab Hbar]
  · isplitr [Hbar]; swap; · iexact Hbar
    isplitl [Hi']; · iapply (Entails.of_eq (pts_iB (F := F) d L _)); iexact Hi'
    isplitl [Ho']
    · have hg : ∀ i, (oB L).view.read (Elt F) ((oB L).view.writes (Elt F) fo [⟨Rect.whole S50x128, tile_body.sl.dma0_1 m d L⟩]) i
          = gathered (fetched m d L) (tC m d) i := fun i =>
        View.read_writes_cons_hit (oB L).view fo (Rect.whole S50x128) (tile_body.sl.dma0_1 m d L) [] i i (Rect.emb_whole_apply S50x128 i)
      iapply (Entails.of_eq (pointsTo_congr (written m d L _ hg)))
      iapply (Entails.of_eq (pts_oB (F := F) d L _)); iexact Ho'
    isplitl [Ht]; · iexact Ht
    iexact Htab
  isplitl [Hr' Hl Hbufs]
  · isplitl [Hl]; · iexists _; iexact Hl
    isplitl [Hr']; · iexists _; iexact Hr'
    iexact Hbufs
  isplitl [HsemG HsemA HsemB HsemO Hsems]
  · isplitl [HsemG]; · iexact HsemG
    isplitl [HsemA]; · iexact HsemA
    isplitl [HsemB]; · iexact HsemB
    isplitl [HsemO]; · iexact HsemO
    iexact Hsems
  iexists _; isplitr
  swap; · iexact HO
  ipureintro; intro p hp
  rcases Finset.mem_insert.mp hp with hp | hp; · exact .inr (.inl (hp ▸ rfl))
  rcases hW₂ p hp with hp | hp; swap; · exact .inr (.inl hp)
  rcases Finset.mem_insert.mp hp with hp | hp; · exact .inr (.inr (hp ▸ rfl))
  rcases Finset.mem_insert.mp hp with hp | hp; · exact .inr (.inl (hp ▸ rfl))
  rcases hW₁ p hp with hp | hp; · exact .inl hp
  exact .inr (.inl hp)

/-- A tile's grid point. -/
def gridAt (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 () = SparseCore.onTile hcore0 hsub0 (fun c s => kernelAt (gridAt c s)) ⟨⟩ c s := rfl

set_option maxRecDepth 16384 in
theorem tileObl (hidx : ∀ d x, (iC m d x : BitVec 32).toNat < 100000) (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact tile_body m d (gridAt ⟨_, hci.1⟩ ⟨_, hci.2⟩) (hidx d) hF O W hO hOlev

end Cert.Proof.Tpu

end
-- ==== Proof.Launch.lean ====
/-
  The launch: how a SparseCore's operands split among its sixteen tiles and come back, and the ghost state of the two
  subcore barriers, dealt to the thirty-two tiles before the program starts.
-/
module

public import proofs.«01_k».proof.Proof.Tile

@[expose] public section

noncomputable section

namespace Cert.Proof.Tpu

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The call's cores and subcores are the device's -/

def coreE : Fin ((K (F := F)).nCore 0) ≃ Fin τ.nSC := finCongr rfl
def subE : Fin ((K (F := F)).nSub 0) ≃ Fin τ.nSub := finCongr rfl

omit [FloatOps F] in
theorem bigSep_cores (Φ : Fin τ.nSC → sProp 𝕄) :
    (bigSep Finset.univ fun c : Fin ((K (F := F)).nCore 0) => Φ ((K (F := F)).core 0 c)) = bigSep Finset.univ Φ :=
  (bigSep_univ_equiv (coreE (F := F)) Φ).symm
omit [FloatOps F] in
theorem bigSep_subs (Φ : Fin τ.nSub → sProp 𝕄) :
    (bigSep Finset.univ fun i : Fin ((K (F := F)).nSub 0) => Φ ((K (F := F)).sub 0 i)) = bigSep Finset.univ Φ :=
  (bigSep_univ_equiv (subE (F := F)) Φ).symm

omit [FloatOps F] in
theorem bigSep_none {I : Type} (s : Finset I) : (bigSep s fun _ => iprop(emp)) = (iprop(emp) : sProp 𝕄) := bigSep_emp_const s

/-! ## A SparseCore's operands among its tiles -/

omit [FloatOps F] in
/-- The shared memory whole is tile 0's start of it. -/
theorem shIn_intro (d : Dev nD) (c : Fin τ.nSC) :
    iprop(∃ f, shLoc d c ↦{fullShare} f) ⊢ (bigSep Finset.univ fun i : Fin τ.nSub => shIn d c i : sProp 𝕄) := by
  have h0 : shIn (F := F) d c (0 : Fin 16) = iprop(∃ f, shLoc d c ↦{fullShare} f) := if_pos rfl
  have hrest : (bigSep (Finset.univ.erase (0 : Fin 16)) fun i : Fin τ.nSub => shIn (F := F) d c i) = iprop(emp) :=
    (bigSep_congr fun i hi => if_neg fun h => (Finset.mem_erase.mp hi).1 (Fin.ext h)).trans (bigSep_none _)
  rw [SparseCore.bigSep_erase' (s := Finset.univ) (Finset.mem_univ (0 : Fin 16)), h0, hrest]
  iintro H
  isplitl [H]; · iexact H
  iempintro

/-- The tiles' shares of the copied table are the shared memory whole. -/
theorem shPts_elim (d : Dev nD) (c : Fin τ.nSC) :
    (bigSep Finset.univ fun i : Fin τ.nSub => shPts m d c i) ⊢ (iprop(∃ f, shLoc d c ↦{fullShare} f) : sProp 𝕄) := by
  unfold shPts shq
  iintro H
  iexists tC m d
  iapply (Entails.of_eq (pointsTo_piecesOf _ _ (by decide : 0 < τ.nSub) fullShare).symm); iexact H

theorem tIn_intro (d : Dev nD) (c : Fin τ.nSC) :
    iprop(cIn m d c ∗ ∃ f, shLoc d c ↦{fullShare} f) ⊢ (bigSep Finset.univ fun i : Fin τ.nSub => tIn m d c i) := by
  unfold cIn tIn
  simp only [bigSep_sep']
  iintro ⟨⟨Hi, Ho, Ht⟩, Hsh⟩
  isplitl [Hi]; · iexact Hi
  isplitl [Ho]; · iexact Ho
  isplitl [Ht]; · iexact Ht
  iapply (shIn_intro d c); iexact Hsh

theorem tOut_elim (d : Dev nD) (c : Fin τ.nSC) :
    (bigSep Finset.univ fun i : Fin τ.nSub => tOut m d c i) ⊢ iprop(cOut m d c ∗ ∃ f, shLoc d c ↦{fullShare} f) := by
  unfold cOut tOut
  simp only [bigSep_sep']
  iintro ⟨⟨Hi, Ho, Ht, Hsh⟩, Hs⟩
  isplitr [Hsh]
  · isplitr [Hs]
    · isplitl [Hi]; · iexact Hi
      isplitl [Ho]; · iexact Ho
      iexact Ht
    · iexact Hs
  · iapply (shPts_elim m d c); iexact Hsh

/-- The shared memory, among what the sequencer holds. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) :=
  SparseCore.bigSep_erase' (mem_ownRefs.mpr rfl : shRef c ∈ ownRefs (τ := τ) (sig := sig) (.scScalar c))

theorem vecSplit : (K (F := F)).VecSplit (P m) 0 := by
  intro d c
  show iprop(cIn m d (coreOf c) ∗ ownBufs (S d (coreOf c))) ⊢ |={Set.univ}=>
    iprop((bigSep Finset.univ fun i : Fin ((K (F := F)).nSub 0) => tIn m d (coreOf c) ((K (F := F)).sub 0 i))
      ∗ ((bigSep Finset.univ fun i : Fin ((K (F := F)).nSub 0) => tOut m d (coreOf c) ((K (F := F)).sub 0 i)) -∗ iprop(cOut m d (coreOf c) ∗ ownBufs (S d (coreOf c)))))
  rw [bigSep_subs (F := F) (fun i => tIn m d (coreOf c) i), bigSep_subs (F := F) (fun i => tOut m d (coreOf c) i), ownBufs_S]
  iintro ⟨Hc, Hsh, Hrest⟩
  imodintro
  isplitl [Hc Hsh]
  · iapply (tIn_intro m d (coreOf c))
    isplitl [Hc] <;> iassumption
  iintro Hout
  ihave H := (tOut_elim m d (coreOf c)) $$ Hout
  icases H with ⟨Hc, Hsh⟩
  isplitl [Hc]; · iexact Hc
  isplitl [Hsh]; · iexact Hsh
  iexact Hrest

/-! ## The launch element -/

/-- A tile of the device: its SparseCore and its number. -/
abbrev Tl : Type := Dev nD × Fin τ.nSC × Fin τ.nSub
abbrev cellOf (x : Tl) : GSem nD τ sig := bcell x.1 x.2.1 x.2.2

omit [FloatOps F] in
theorem cellOf_injective : Function.Injective (cellOf : Tl → GSem nD τ sig) := by
  rintro ⟨d, c, i⟩ ⟨d', c', i'⟩ e
  have hp := (Prod.mk.inj e).1
  obtain ⟨rfl, hv⟩ := Prod.mk.inj hp
  obtain ⟨rfl, rfl⟩ := Proc.scVector.inj hv
  rfl

/-- The tiles' barrier semaphores. -/
def bCells : Finset (GSem nD τ sig) := Finset.univ.image cellOf
/-- Each tile's token in each barrier semaphore of its SparseCore. -/
def bToks : Finset (GSem nD τ sig × ℕ × ℕ) :=
  ((Finset.univ : Finset Tl) ×ˢ Finset.univ).image fun x : Tl × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem mem_bCells (x : Tl) : cellOf x ∈ bCells := Finset.mem_image_of_mem _ (Finset.mem_univ x)

omit [FloatOps F] in
theorem bCells_eq (Φ : GSem nD τ sig → sProp 𝕄) : bigSep bCells Φ = bigSep Finset.univ fun x : Tl => Φ (cellOf x) :=
  SparseCore.bigSep_image_of_injOn (fun _ _ _ _ e => cellOf_injective e) Φ

omit [FloatOps F] in
theorem toks_eq : (bigSep bToks fun x => (dutyTok EB x.1 x.2.1 x.2.2 : sProp 𝕄))
    = bigSep Finset.univ fun x : Tl => bigSep Finset.univ fun j : Fin (grid0.bound 1) => dutyTok EB (bcell x.1 x.2.1 (j.castLE hsub0)) 0 x.2.2.val := by
  unfold bToks
  rw [SparseCore.bigSep_image_of_injOn, SparseCore.bigSep_product]
  rintro ⟨⟨d, c, i⟩, j⟩ - ⟨⟨d', c', i'⟩, j'⟩ - e
  have hc := cellOf_injective (show cellOf (d, c, j.castLE hsub0) = cellOf (d', c', j'.castLE hsub0) from (Prod.mk.inj e).1)
  have hi : i = i' := Fin.ext (Prod.mk.inj (Prod.mk.inj e).2).2
  obtain ⟨rfl, hcj⟩ := Prod.mk.inj hc
  obtain ⟨rfl, hj⟩ := Prod.mk.inj hcj
  obtain rfl : j = j' := Fin.ext (congrArg Fin.val hj)
  rw [hi]

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores. -/
theorem sems_b : ((K (F := F)).freeOn (· ∈ bCells) : sProp 𝕄) ⊢ bigSep bCells fun g => semVal g 0 := by
  rw [bCells_eq]
  unfold SparseCore.Cfg.freeOn
  refine sep_elim_right.trans (bigSep_mono fun x _ => ?_)
  exact bigSep_elim (Φ := fun sm : SemLoc sig => (semVal (V x.1 x.2.1 x.2.2, sm) 0 : sProp 𝕄)) (Finset.mem_filter.mpr
    ⟨Finset.mem_erase.mpr ⟨fun h => sc_bar0_ne_go (SemLoc.reg.inj h), Finset.mem_filter.mpr ⟨Finset.mem_univ _, by decide⟩⟩, mem_bCells x⟩)

/-- The barrier semaphores' invariants. -/
theorem invs_b : iprop((bigSep bCells fun g => (semVal g 0 : sProp 𝕄)) ∗ bigSep bCells fun g => roundState EB (bRd m) g 0)
    ⊢ |={Set.univ}=> iprop(∃ κ : GSem nD τ sig → ℕ, bigSep bCells fun g => cellInv EB (bRd m) (κ g) g) := by
  refine (Rounds.bodies_intro EB (bRd m) bCells).trans ((inv_alloc_family bCells (Rounds.body EB (bRd m)) ∅ (E := Set.univ)).trans ?_)
  iintro H
  imod H with ⟨%κ, -, Hinv⟩
  imodintro; iexists κ; iexact Hinv

omit [FloatOps F] in
theorem units_sum (g : GSem nD τ sig) (ι : HIx 1) (n : ℕ) : ∑ _ : Fin n, tallyAt g ι 1 = (tallyAt g ι n : CellTallies nD τ sig (HIx 1)) := by
  induction n with
  | zero => rw [tallyAt_zero]; rfl
  | succ n ih => rw [Fin.sum_univ_castSucc, ih, tallyAt_add]

theorem ox_eq (d : Dev nD) (c : Fin τ.nSC) (i : Fin τ.nSub) : (P (F := F) m).oxFrom 0 (V d c i) = oxV d c := by
  rw [show (0 : ℕ) = (0 : Fin 1).val from rfl, (P m).oxFrom_step, (P m).oxFrom_end _ (n := (0 : Fin 1).val + 1) le_rfl, add_zero]
  rfl

/-- The credit for what the tiles owe, by the semaphore it is owed on: sixteen units on each. -/
theorem creds_b : ((P (F := F) m).oxCred : sProp 𝕄) ⊢ bigSep Finset.univ fun x : Tl => cred (tallyAt (cellOf x) (some 0) (grid0.bound 1)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  simp only [ox_eq]
  rw [bigSep_univ_prod, bigSep_univ_prod (fun x : Tl => (cred (tallyAt (cellOf x) (some 0) (grid0.bound 1)) : sProp 𝕄))]
  refine bigSep_mono fun d _ => ?_
  rw [bigSep_univ_prod, bigSep_univ_prod (fun ci : Fin τ.nSC × Fin τ.nSub => (cred (tallyAt (cellOf (d, ci)) (some 0) (grid0.bound 1)) : sProp 𝕄))]
  refine bigSep_mono fun c _ => ?_
  dsimp only
  unfold oxV
  rw [SparseCore.Cfg.cred_finsum, bigSep_univ_comm]
  refine bigSep_mono fun j _ => ?_
  rw [← SparseCore.Cfg.cred_finsum, units_sum]; rfl

/-! ## The tiles' kits -/

omit [FloatOps F] in
/-- What holds for good is at hand at every index. -/
theorem bigSep_with {I : Type} [DecidableEq I] {R : sProp 𝕄} [BI.Persistent R] {Φ Ψ : I → sProp 𝕄} (s : Finset I)
    (h : ∀ i, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, Ha, Hs⟩
    isplitl [Ha]
    · iapply (h a); isplitr; · iexact HR
      iexact Ha
    · iapply ih; isplitr; · iexact HR
      iexact Hs

/-- What every tile is dealt alike: the barrier semaphores' invariants, each at round 0. -/
abbrev common : sProp 𝕄 :=
  iprop((∃ κ : GSem nD τ sig → ℕ, bigSep Finset.univ fun x : Tl => cellInv EB (bRd m) (κ (cellOf x)) (cellOf x))
    ∗ bigSep Finset.univ fun x : Tl => reached EB (cellOf x) 0)
/-- What a tile is dealt of its own: its position, its tokens, its credit. -/
abbrev own (x : Tl) : sProp 𝕄 :=
  iprop(atPos EB (cellOf x) 0 ∅ 0
    ∗ (bigSep Finset.univ fun j : Fin (grid0.bound 1) => dutyTok EB (bcell x.1 x.2.1 (j.castLE hsub0)) 0 x.2.2.val)
    ∗ cred (tallyAt (cellOf x) (some 0) (grid0.bound 1)))

theorem kit_intro (x : Tl) : iprop(common m ∗ own x) ⊢ (bkit m x.1 x.2.1 x.2.2 : sProp 𝕄) := by
  obtain ⟨d, c, i⟩ := x
  iintro ⟨⟨#Hinv, #Hr⟩, Hat, Htok, Hcred⟩
  unfold bkit
  isplitr
  · icases Hinv with ⟨%κ, Hinv⟩
    iexists κ
    iapply (SparseCore.ent (bigSep_with (Finset.univ : Finset (Fin (grid0.bound 1))) (Φ := fun _ => iprop(emp))
      (R := bigSep Finset.univ fun x : Tl => cellInv EB (bRd m) (κ (cellOf x)) (cellOf x)) fun j =>
        sep_elim_left.trans (bigSep_elim (Φ := fun x : Tl => (cellInv EB (bRd m) (κ (cellOf x)) (cellOf x) : sProp 𝕄))
          (Finset.mem_univ ((d, c, Fin.castLE hsub0 j) : Tl)))))
    isplitl; · iexact Hinv
    rw [bigSep_none]; iempintro
  isplitl [Htok]; · iexact Htok
  isplitr
  · iapply (SparseCore.ent (bigSep_with (Finset.univ : Finset (Fin (grid0.bound 1))) (Φ := fun _ => iprop(emp))
      (R := bigSep Finset.univ fun x : Tl => reached EB (cellOf x) 0) fun j =>
        sep_elim_left.trans (bigSep_elim (Φ := fun x : Tl => (reached EB (cellOf x) 0 : sProp 𝕄))
          (Finset.mem_univ ((d, c, Fin.castLE hsub0 j) : Tl)))))
    isplitl; · iexact Hr
    rw [bigSep_none]; iempintro
  isplitl [Hat]; · iexact Hat
  iexact Hcred

theorem Px_T (d : Dev nD) : (bigSep Finset.univ fun q : Fin 1 => (P (F := F) m).x q (SparseCore.T d)) = iprop(emp) :=
  bigSep_univ_of_subsingleton (0 : Fin 1)
theorem Px_S (d : Dev nD) (c : Fin τ.nSC) : (bigSep Finset.univ fun q : Fin 1 => (P (F := F) m).x q (S d c)) = iprop(emp) :=
  bigSep_univ_of_subsingleton (0 : Fin 1)
theorem Px_V (d : Dev nD) (c : Fin τ.nSC) (i : Fin τ.nSub) :
    (bigSep Finset.univ fun q : Fin 1 => (P (F := F) m).x q (V d c i)) = bkit m d c i :=
  bigSep_univ_of_subsingleton (0 : Fin 1)

theorem kits_deal :
    iprop(common m ∗ bigSep Finset.univ fun x : Tl => own (F := F) x)
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, bigSep_none]
  iintro H
  isplitr; · iempintro
  isplitr; · iempintro
  iapply (bigSep_with (R := common m) (Finset.univ : Finset Tl) fun x => kit_intro m x)
  iexact H

theorem hu₀ : iprop(ownU (u₀ (F := F)) ∗ (P (F := F) m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd m) bCells bToks) $$ HB with ⟨Hst, #Hr, Hat, Htok⟩
  ihave Hsems := (sems_b (F := F)) $$ Hfree
  imod (invs_b m) $$ [Hsems Hst] with ⟨%κ, #Hinv⟩
  · isplitl [Hsems] <;> iassumption
  ihave Hcred' := (creds_b m) $$ Hcred
  ihave Hinv' := (Entails.of_eq (bCells_eq (F := F) fun g => cellInv EB (bRd m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_none]; iempintro
  iapply (kits_deal m)
  isplitr
  · isplitl; · iexists κ; iexact Hinv'
    iexact Hr'
  unfold own
  rw [bigSep_sep', bigSep_sep']
  isplitl [Hat']; · iexact Hat'
  isplitl [Htok']; · iexact Htok'
  iexact Hcred'

end Cert.Proof.Tpu

end
-- ==== Proof.Main.lean ====
/-
  @main on the TensorCore: two host operations lay out the indices and the table, the SparseCore call gathers, two host
  operations lay out the result. Its run, and what every final memory holds.
-/
module

public import proofs.«01_k».proof.Proof.Launch

@[expose] public section

noncomputable section

namespace Cert.Proof.Tpu

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The arrays of @main -/

abbrev a0' : DevRef τ sig := Proc.devRef .tc (main_arg0 : Ref sig .tc)
abbrev a1' : DevRef τ sig := Proc.devRef .tc (main_arg1 : Ref sig .tc)
abbrev i' : DevRef τ sig := Proc.devRef .tc (main_v0 : Ref sig .tc)
abbrev t' : DevRef τ sig := Proc.devRef .tc (main_v1 : Ref sig .tc)
abbrev o' : DevRef τ sig := Proc.devRef .tc (main_v2 : Ref sig .tc)
abbrev x' : DevRef τ sig := Proc.devRef .tc (main_v3 : Ref sig .tc)
abbrev r' : DevRef τ sig := Proc.devRef .tc (main_v4 : Ref sig .tc)

abbrev a0Loc (d : Dev nD) : Loc nD τ sig := (SparseCore.T d).loc main_arg0
abbrev a1Loc (d : Dev nD) : Loc nD τ sig := (SparseCore.T d).loc main_arg1
abbrev rowLoc (d : Dev nD) : Loc nD τ sig := (SparseCore.T d).loc main_v3
abbrev resLoc (d : Dev nD) : Loc nD τ sig := (SparseCore.T d).loc main_v4

/-- The host's operations after the call, as `main` prints them. -/
abbrev opX : HloOp τ sig (Elt F) := StableHlo.unary main_v2 main_v3 ((transpose S4096x50 [1, 0] · transposes_S50x4096_S4096x50_1_0) : (⟨S50x4096, .f32⟩ : BufTy).Contents (Elt F) → (⟨S4096x50, .f32⟩ : BufTy).Contents (Elt F))
abbrev opR : HloOp τ sig (Elt F) := StableHlo.unary main_v3 main_v4 (broadcastInDim S4096x50x1 ![0, 1] bcast_S4096x50_S4096x50x1_0_1 : (⟨S4096x50, .f32⟩ : BufTy).Contents (Elt F) → (⟨S4096x50x1, .f32⟩ : BufTy).Contents (Elt F))

/-- The memory after the call, and after the operations that follow it. -/
def V3 (d : Dev nD) : Valuation τ sig (Elt F) := Function.update (V2 m d) o' (oC m d)
abbrev V4 (d : Dev nD) : Valuation τ sig (Elt F) := (opX (F := F)).result (V3 m d)
abbrev V5 (d : Dev nD) : Valuation τ sig (Elt F) := (opR (F := F)).result (V4 m d)

/-- @main's result. -/
def rC (d : Dev nD) : Buf (Elt F) (resLoc d) := V5 m d r'

abbrev S7 : Finset (DevRef τ sig) := {a0', a1', i', t', o', x', r'}

omit [FloatOps F] in
theorem held_S7 (d : Dev nD) (W : Valuation τ sig (Elt F)) :
    (held (T d) S7 W : sProp 𝕄) = iprop((a0Loc d ↦{fullShare} W a0') ∗ (a1Loc d ↦{fullShare} W a1') ∗ (iLoc d ↦{fullShare} W i') ∗ (tLoc d ↦{fullShare} W t')
      ∗ (oLoc d ↦{fullShare} W o') ∗ (rowLoc d ↦{fullShare} W x') ∗ resLoc d ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## What the operations leave alone -/

theorem V2_a0 (d : Dev nD) : V2 m d a0' = m (a0Loc d) :=
  ((opT (F := F)).result_of_not_mem (V1 m d) (b := a0') (show a0' ∉ ({t'} : Finset (DevRef τ sig)) by decide)).trans
    ((opI (F := F)).result_of_not_mem (V0 m d) (b := a0') (show a0' ∉ ({i'} : Finset (DevRef τ sig)) by decide))
theorem V2_a1 (d : Dev nD) : V2 m d a1' = m (a1Loc d) :=
  ((opT (F := F)).result_of_not_mem (V1 m d) (b := a1') (show a1' ∉ ({t'} : Finset (DevRef τ sig)) by decide)).trans
    ((opI (F := F)).result_of_not_mem (V0 m d) (b := a1') (show a1' ∉ ({i'} : Finset (DevRef τ sig)) by decide))

theorem V3_o (d : Dev nD) : V3 m d o' = oC m d := Function.update_self _ _ _
theorem V3_of_ne (d : Dev nD) {b : DevRef τ sig} (h : b ≠ o') : V3 m d b = V2 m d b := Function.update_of_ne h _ _

theorem V5_of_ne (d : Dev nD) {b : DevRef τ sig} (ho : b ≠ o') (hx : b ∉ ({x'} : Finset (DevRef τ sig))) (hr : b ∉ ({r'} : Finset (DevRef τ sig))) :
    V5 m d b = V2 m d b :=
  ((opR (F := F)).result_of_not_mem (V4 m d) (b := b) hr).trans (((opX (F := F)).result_of_not_mem (V3 m d) (b := b) hx).trans (V3_of_ne m d ho))
theorem V5_a0 (d : Dev nD) : V5 m d a0' = m (a0Loc d) := (V5_of_ne m d (by decide) (by decide) (by decide)).trans (V2_a0 m d)
theorem V5_a1 (d : Dev nD) : V5 m d a1' = m (a1Loc d) := (V5_of_ne m d (by decide) (by decide) (by decide)).trans (V2_a1 m d)

theorem hI : (opI (F := F)).bufs ⊆ S7 := show ({a0', i'} : Finset (DevRef τ sig)) ⊆ S7 by decide
theorem hT : (opT (F := F)).bufs ⊆ S7 := show ({a1', t'} : Finset (DevRef τ sig)) ⊆ S7 by decide
theorem hX : (opX (F := F)).bufs ⊆ S7 := show ({o', x'} : Finset (DevRef τ sig)) ⊆ S7 by decide
theorem hR : (opR (F := F)).bufs ⊆ S7 := show ({x', r'} : Finset (DevRef τ sig)) ⊆ S7 by decide

/-! ## The call's operands by tile -/

omit [FloatOps F] in
theorem wid_injective : Function.Injective fun x : Fin τ.nSC × Fin τ.nSub => wid x.1 x.2 := by
  rintro ⟨c, i⟩ ⟨c', i'⟩ e
  have e' : 2 * i.val + c.val = 2 * i'.val + c'.val := congrArg Fin.val e
  have h1 : c.val < 2 := c.isLt
  have h2 : c'.val < 2 := c'.isLt
  exact Prod.ext (Fin.ext (by dsimp only; omega)) (Fin.ext (by dsimp only; omega))

omit [FloatOps F] in
theorem wid_surjective (w : Fin 32) : ∃ x : Fin τ.nSC × Fin τ.nSub, wid x.1 x.2 = w :=
  ⟨(⟨w.val % 2, Nat.mod_lt _ (by decide)⟩, ⟨w.val / 2, (show w.val / 2 < 16 by omega)⟩), Fin.ext (by show 2 * (w.val / 2) + w.val % 2 = w.val; omega)⟩

omit [FloatOps F] in
theorem cols_disjoint : ∀ a ∈ (Finset.univ : Finset (Fin τ.nSC × Fin τ.nSub)), ∀ b ∈ (Finset.univ : Finset (Fin τ.nSC × Fin τ.nSub)), a ≠ b →
    Disjoint (colSet a.1 a.2) (colSet b.1 b.2) :=
  fun _ _ _ _ h => Rect.part_disjoint hdivC fun e => h (wid_injective e)

omit [FloatOps F] in
theorem cols_cover : (Finset.univ : Finset (Fin τ.nSC × Fin τ.nSub)).biUnion (fun x => colSet x.1 x.2) = Finset.univ := by
  refine Finset.eq_univ_of_forall fun j => ?_
  have hj : j ∈ (Finset.univ : Finset (Fin 32)).biUnion fun w => (col w).set := by rw [Rect.biUnion_part hdivC]; exact Finset.mem_univ j
  obtain ⟨w, -, hw⟩ := Finset.mem_biUnion.mp hj
  obtain ⟨x, rfl⟩ := wid_surjective w
  exact Finset.mem_biUnion.mpr ⟨x, Finset.mem_univ x, hw⟩

omit [FloatOps F] in
/-- The indices whole are the tiles' columns of them. -/
theorem i_cols (d : Dev nD) (f : Buf (Elt F) (iLoc d)) : (iLoc d ↦{fullShare} f : sProp 𝕄)
    = bigSep Finset.univ fun c : Fin τ.nSC => bigSep Finset.univ fun i : Fin τ.nSub => iLoc d ↦[colSet c i]{fullShare} f := by
  rw [← bigSep_univ_prod (fun x : Fin τ.nSC × Fin τ.nSub => (iLoc d ↦[colSet x.1 x.2]{fullShare} f : sProp 𝕄)), ← pointsTo_biUnion Finset.univ _ cols_disjoint, cols_cover]
omit [FloatOps F] in
/-- The result whole is the tiles' columns of it. -/
theorem o_cols (d : Dev nD) (f : Buf (Elt F) (oLoc d)) : (oLoc d ↦{fullShare} f : sProp 𝕄)
    = bigSep Finset.univ fun c : Fin τ.nSC => bigSep Finset.univ fun i : Fin τ.nSub => oPts d c i f := by
  rw [← bigSep_univ_prod (fun x : Fin τ.nSC × Fin τ.nSub => (oLoc d ↦[colSet x.1 x.2]{fullShare} f : sProp 𝕄)), ← pointsTo_biUnion Finset.univ _ cols_disjoint, cols_cover]

/-- The table whole is the tiles' parts of it. -/
theorem t_parts (d : Dev nD) : (tLoc d ↦{fullShare} tC m d : sProp 𝕄)
    = bigSep Finset.univ fun c : Fin τ.nSC => bigSep Finset.univ fun i : Fin τ.nSub => tPts m d c i := by
  refine (pointsTo_piecesOf _ _ (by decide : 0 < τ.nSC) fullShare).trans (bigSep_congr fun c _ => ?_)
  exact pointsTo_piecesOf _ _ (by decide : 0 < τ.nSub) (tqC c)

/-- The barrier semaphores, at zero. -/
abbrev bars (d : Dev nD) : sProp 𝕄 := bigSep Finset.univ fun c : Fin τ.nSC => bigSep Finset.univ fun i : Fin τ.nSub => semVal (bcell d c i) 0

theorem call_in (d : Dev nD) (f : Buf (Elt F) (oLoc d)) :
    iprop((iLoc d ↦{fullShare} iC m d) ∗ (tLoc d ↦{fullShare} tC m d) ∗ oLoc d ↦{fullShare} f)
      ⊢ (bigSep Finset.univ fun c : Fin ((K (F := F)).nCore 0) => (P m).st 0 d c : sProp 𝕄) := by
  show _ ⊢ bigSep Finset.univ fun c : Fin ((K (F := F)).nCore 0) => cIn m d ((K (F := F)).core 0 c)
  rw [bigSep_cores (F := F) (fun c => cIn m d c), i_cols, t_parts, o_cols]
  unfold cIn
  simp only [bigSep_sep']
  iintro ⟨Hi, Ht, Ho⟩
  isplitl [Hi]; · iexact Hi
  isplitl [Ho]
  · iapply (SparseCore.ent (bigSep_mono fun c _ => bigSep_mono fun i _ => BI.BIClass.exists_intro (Φ := fun f => oPts (F := F) d c i f) f))
    iexact Ho
  iexact Ht

theorem call_out (d : Dev nD) :
    (bigSep Finset.univ fun c : Fin ((K (F := F)).nCore 0) => (P m).dn 0 d c : sProp 𝕄)
      ⊢ iprop((iLoc d ↦{fullShare} iC m d) ∗ (tLoc d ↦{fullShare} tC m d) ∗ (oLoc d ↦{fullShare} oC m d) ∗ bars d) := by
  show (bigSep Finset.univ fun c : Fin ((K (F := F)).nCore 0) => cOut m d ((K (F := F)).core 0 c)) ⊢ _
  rw [bigSep_cores (F := F) (fun c => cOut m d c), i_cols, t_parts, o_cols]
  unfold cOut
  simp only [bigSep_sep']
  iintro ⟨⟨Hi, Ho, Ht⟩, Hs⟩
  isplitl [Hi]; · iexact Hi
  isplitl [Ht]; · iexact Ht
  isplitl [Ho]; · iexact Ho
  iexact Hs

/-! ## @main -/

/-- What @main leaves the claims: the arguments as they were, the result, the barrier semaphores at zero. -/
abbrev FIN (d : Dev nD) : sProp 𝕄 :=
  iprop((a0Loc d ↦{fullShare} m (a0Loc d)) ∗ (a1Loc d ↦{fullShare} m (a1Loc d)) ∗ (resLoc d ↦{fullShare} rC m d) ∗ bars d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  -- the indices transposed, the table flattened
  iapply (StableHlo.wp_hlo_within 𝒱 (SparseCore.T d) none Set.univ (op := opI) (S := S7) hI (V := V0 m d)) $$ [Hb Hheld]
  · isplitl [Hb] <;> iassumption
  iintro ⟨Hb, Hheld⟩
  rw [wp_ret]; imodintro
  iapply (StableHlo.wp_hlo_within 𝒱 (SparseCore.T d) none Set.univ (op := opT) (S := S7) hT (V := V1 m d)) $$ [Hb Hheld]
  · isplitl [Hb] <;> iassumption
  iintro ⟨Hb, Hheld⟩
  rw [wp_ret]; imodintro
  ihave Hh := (Entails.of_eq (held_S7 (F := F) d (V2 m d))) $$ Hheld
  icases Hh with ⟨Ha0, Ha1, Hi, Ht, Ho, Hx, Hr⟩
  -- the gather
  iapply ((K (F := F)).wp_run (D (F := F)) 𝒱 (EH := EH) (P := P m) κ d 0) $$ [Hst Hi Ht Ho Hb Ha0 Ha1 Hx Hr Hts]
  isplitr; · iexact Hctx
  isplitl [Hst]; · iexact Hst
  isplitl [Hi Ht Ho]
  · iapply (call_in m d (V2 m d o'))
    isplitl [Hi]; · iexact Hi
    isplitl [Ht]; · iexact Ht
    iexact Ho
  iintro ⟨Hst, Hdn⟩
  ihave Hdn' := (call_out m d) $$ Hdn
  icases Hdn' with ⟨Hi, Ht, Ho, Hbars⟩
  -- the result transposed, and given its last axis
  iapply (StableHlo.wp_hlo_within 𝒱 (SparseCore.T d) none Set.univ (op := opX) (S := S7) hX (V := V3 m d)) $$ [Hb Ha0 Ha1 Hi Ht Ho Hx Hr]
  · isplitl [Hb]; · iexact Hb
    rw [held_S7, V3_o, V3_of_ne m d (b := a0') (by decide), V3_of_ne m d (b := a1') (by decide), V3_of_ne m d (b := i') (by decide),
      V3_of_ne m d (b := t') (by decide), V3_of_ne m d (b := x') (by decide), V3_of_ne m d (b := r') (by decide)]
    isplitl [Ha0]; · iexact Ha0
    isplitl [Ha1]; · iexact Ha1
    isplitl [Hi]; · iexact Hi
    isplitl [Ht]; · iexact Ht
    isplitl [Ho]; · iexact Ho
    isplitl [Hx]; · iexact Hx
    iexact Hr
  iintro ⟨Hb, Hheld⟩
  rw [wp_ret]; imodintro
  iapply (StableHlo.wp_hlo_within 𝒱 (SparseCore.T d) none Set.univ (op := opR) (S := S7) hR (V := V4 m d)) $$ [Hb Hheld]
  · isplitl [Hb] <;> iassumption
  iintro ⟨Hb, Hheld⟩
  ihave Hh := (Entails.of_eq (held_S7 (F := F) d (V5 m d))) $$ Hheld
  rw [V5_a0, V5_a1]
  icases Hh with ⟨Ha0, Ha1, -, -, -, -, Hr⟩
  rw [wp_ret]; imodintro; imodintro
  isplitl [Hst]; · iexact Hst
  isplitr [Hb Hts]
  · isplitl [Ha0]; · iexact Ha0
    isplitl [Ha1]; · iexact Ha1
    isplitl [Hr]; · iexact Hr
    iexact Hbars
  isplitl [Hb] <;> iassumption

/-! ## The final memory -/

def fq (d : Dev nD) (s' : Phys nD τ sig (Elt F)) : Prop :=
  (s'.mem.mem (a0Loc d) = m (a0Loc d) ∧ s'.mem.mem (a1Loc d) = m (a1Loc d) ∧ s'.mem.mem (resLoc d) = rC m d)
    ∧ ∀ (c : Fin τ.nSC) (i : Fin τ.nSub), s'.mem.sem (bcell d c i) = 0

omit [FloatOps F] in
/-- An array held whole is what the memory holds. -/
theorem read_whole (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  have h0 : (FIN m d : sProp 𝕄) ⊢ a0Loc d ↦{fullShare} m (a0Loc d) := sep_elim_left
  have h1 : (FIN m d : sProp 𝕄) ⊢ a1Loc d ↦{fullShare} m (a1Loc d) := sep_elim_right.trans sep_elim_left
  have h2 : (FIN m d : sProp 𝕄) ⊢ resLoc d ↦{fullShare} rC m d := sep_elim_right.trans (sep_elim_right.trans sep_elim_left)
  have hb : ∀ (c : Fin τ.nSC) (i : Fin τ.nSub), (FIN m d : sProp 𝕄) ⊢ semVal (bcell d c i) 0 := fun c i =>
    sep_elim_right.trans (sep_elim_right.trans (sep_elim_right.trans
      ((bigSep_elim (Φ := fun c : Fin τ.nSC => (bigSep Finset.univ fun i : Fin τ.nSub => semVal (bcell d c i) 0 : sProp 𝕄)) (Finset.mem_univ c)).trans
        (bigSep_elim (Φ := fun i : Fin τ.nSub => (semVal (bcell d c i) 0 : sProp 𝕄)) (Finset.mem_univ i)))))
  exact fun x hx => ⟨⟨((sep_mono_left h0).trans (read_whole _ _ s')) x hx, ((sep_mono_left h1).trans (read_whole _ _ s')) x hx,
    ((sep_mono_left h2).trans (read_whole _ _ s')) x hx⟩, fun c i => ((sep_mono_left (hb c i)).trans (SparseCore.Cfg.semVal_zero_read _ s')) x hx⟩

theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2 c i

/-- The arguments as they were, the result at its value, every semaphore at zero. -/
def QC : PUnit × MemSt nD τ sig (Elt F) → Prop := fun r =>
  (∀ d : Dev nD, r.2.mem (a0Loc d) = m (a0Loc d) ∧ r.2.mem (a1Loc d) = m (a1Loc d) ∧ r.2.mem (resLoc d) = rC m d) ∧ r.2.sem = fun _ => 0

theorem run_main [∀ e, Nonempty (Elt F e)] (hidx : ∀ d x, (iC m d x : BitVec 32).toNat < 100000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m hidx facts)
    (fun q _ => match q with | 0 => vecSplit m)
    m ρ main (fun _ => iprop(emp)) (FIN m) (u₀ (F := F)) (hu₀ m) (hmain m ρ) (fq m) (hfin m) (QC m) (fun _ h hz => ⟨fun d => (h d).1, hz⟩)

end Cert.Proof.Tpu

end
-- ==== Proof.Values.lean ====
/-
  What both programs compute: the element of the table that each index names. The precondition read at one index, the
  kernel's result and the reference's result read at one index.
-/
module

public import proofs.«01_k».proof.Proof.Main
public import proofs.«01_k».proof.Proof.Gen.Pre_in_range
public import proofs.«01_k».proof.Proof.Gen.ReferenceIdeal
public import proofs.«01_k».proof.Proof.Gen.ReferenceIdeal.Run
public import Idealize.ShloMosaic.Lib.ValueIdx
public import Idealize.ShloMosaic.Lib.Pipeline.Value
public import Idealize.ShloMosaic.Lib.StableHlo.Predicate
public import Idealize.ShloMosaic.PureOps.Reduce

@[expose] public section

noncomputable section

namespace Cert.Proof.Values

open Idealize.ShloMosaic Idealize.ShloMosaic.ValueIdx Idealize.ShloMosaic.StableHlo.Predicate

abbrev SB : Shape := ⟨2, ![4096, 50]⟩
abbrev ST : Shape := ⟨2, ![100000, 1]⟩
abbrev SR : Shape := ⟨3, ![4096, 50, 1]⟩

/-- The table's row that a word names. -/
abbrev row (w : BitVec 32) : ST.Idx := ix2 (⟨w.toNat % 100000, Nat.mod_lt _ (by decide)⟩ : Fin 100000) (0 : Fin 1)

/-- The table taken at the indices. -/
def taken {α : Type} (a : IVec SB 32) (t : ST.Idx → α) : SR.Idx → α := fun y => t (row (a (ix2 (y 0 : Fin 4096) (y 1 : Fin 50))))

/-! ## A conjunction over an array -/

theorem fold_and {ι : Type} [DecidableEq ι] (S : Finset ι) (f : ι → BitVec 1) : S.fold IntOp.andi 1#1 f = 1#1 ↔ ∀ i ∈ S, f i = 1#1 := by
  have h2 : ∀ a b : BitVec 1, IntOp.andi a b = 1#1 ↔ a = 1#1 ∧ b = 1#1 := by decide
  induction S using Finset.induction_on with
  | empty => simp
  | insert a S ha ih => rw [Finset.fold_insert ha, h2, Finset.forall_mem_insert]; exact and_congr Iff.rfl ih

theorem reduce_and {s t u : Shape} {axes : List (Fin s.rank)} (x : IVec s 1) (h : s.ReducesTo axes t) (hu : 0 < u.numel) (j : t.Idx) :
    Host.reduce IntOp.andi x (constantI u 1 1#1) h hu j = 1#1 ↔ ∀ i, h.drop i = j → x i = 1#1 := by
  rw [Host.reduce_eq_fold]
  show Finset.fold IntOp.andi 1#1 x _ = 1#1 ↔ _
  rw [fold_and]
  simp

theorem select_of_one {α : Type} {s : Shape} {c : IVec s 1} {x y : s.Idx → α} {i : s.Idx} (h : c i = 1#1) : select c x y i = x i := if_pos h

/-! ## The precondition -/

theorem word_lt {w : BitVec 32} (h0 : IntOp.cmpi .sge w 0#32 = 1#1) (h1 : IntOp.cmpi .slt w 100000#32 = 1#1) : w.toNat < 100000 := by
  simp only [IntOp.cmpi, ofBool_eq_one_iff, BitVec.sle, BitVec.slt, decide_eq_true_eq] at h0 h1
  rw [show (0#32 : BitVec 32).toInt = 0 by decide] at h0
  rw [show (100000#32 : BitVec 32).toInt = 100000 by decide] at h1
  have hm := BitVec.toInt_eq_msb_cond w
  have hw := w.isLt
  split at hm <;> omega

/-- Under the precondition every index names a row of the table. -/
theorem in_range_lt {F : FTy → Type} [FloatOps F] (a : IVec SB 32) (t : FVec F ST .f32)
    (h : Cert.Pre_in_range.fn (F := F) a t = fun _ => 1#1) (j : SB.Idx) : (a j).toNat < 100000 := by
  have h' := (reduce_and _ _ _ _).mp (congrFun h (fun k => k.elim0)) j (funext fun k => k.elim0)
  have h2 : ∀ a b : BitVec 1, IntOp.andi a b = 1#1 → a = 1#1 ∧ b = 1#1 := by decide
  obtain ⟨h0, h1⟩ := h2 _ _ h'
  exact word_lt h0 h1

/-! ## The reference -/

section Ref
open Cert.ReferenceIdeal Cert.ReferenceIdeal.Gen

/-- The reference's gather at one result index: the row its start index names, read signed and clamped. -/
theorem gather_row {α : Type} (x : ST.Idx → α) (idx : IVec SR 32) (y : SR.Idx) :
    Host.gather gather_S100000x1_S4096x50x1_S4096x50x1_2_0_n_n_0_2_11 x idx y
      = x (ix2 (⟨min (idx (ix3 (y 0 : Fin 4096) (y 1 : Fin 50) (0 : Fin 1))).toInt.toNat 99999, by omega⟩ : Fin 100000) (0 : Fin 1)) := by
  unfold Host.gather
  refine congrArg x (funext fun a => Fin.ext ?_)
  match a with
  | ⟨0, _⟩ =>
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl)), Nat.add_zero]
    unfold GatherDims.start
    have hs : (0 : Fin S100000x1.rank) ∈ gather_S100000x1_S4096x50x1_S4096x50x1_2_0_n_n_0_2_11.startIndexMap := List.mem_singleton.mpr rfl
    rw [dif_pos hs]
    refine congrArg (fun k : SR.Idx => min (idx k).toInt.toNat 99999) (funext fun b => Fin.ext ?_)
    match b with
    | ⟨0, _⟩ => rfl
    | ⟨1, _⟩ => rfl
    | ⟨2, _⟩ => rfl
  | ⟨1, h⟩ => exact Nat.lt_one_iff.mp (GatherDims.lt _ y idx ⟨1, h⟩)

/-- The indices as the reference passes them on: those below zero counted from the table's end. -/
abbrev wrapped (a : IVec SB 32) : IVec SB 32 :=
  select (cmpi .slt a (broadcastInDim S4096x50 ![] bcast_S_S4096x50 (constantI S_ 32 0#32))) (addi a (broadcastInDim S4096x50 ![] bcast_S_S4096x50 (constantI S_ 32 100000#32))) a

theorem wrapped_eq (a : IVec SB 32) (h : ∀ j, (a j).toNat < 100000) : wrapped a = a := by
  funext j
  have hn : ¬ IntOp.cmpi .slt (a j) 0#32 = 1#1 := fun e => by
    have := (slt_iff_toNat (by have := h j; omega) (by decide)).mp e
    exact absurd this (Nat.not_lt_zero _)
  exact if_neg hn

/-- The indices with their last axis. -/
abbrev starts (a : IVec SB 32) : IVec SR 32 := broadcastInDim S4096x50x1 ![0, 1] bcast_S4096x50_S4096x50x1_0_1 (wrapped a)

theorem col_apply {α : Type} (a : SB.Idx → α) (y : SR.Idx) :
    broadcastInDim S4096x50x1 ![0, 1] bcast_S4096x50_S4096x50x1_0_1 a y = a (ix2 (y 0 : Fin 4096) (y 1 : Fin 50)) :=
  broadcastInDim_apply _ _ _ _ _ fun b => by
    match b with
    | ⟨0, _⟩ => rfl
    | ⟨1, _⟩ => rfl

/-- The reference's result, as its run leaves it. -/
def refOut {F : FTy → Type} [FloatOps F] (a : IVec SB 32) (t : FVec F ST .f32) : FVec F SR .f32 :=
  select (broadcastInDim S4096x50x1 ![0, 1] bcast_S4096x50_S4096x50x1_0_1
      (Host.reduce IntOp.andi (andi (cmpi .sge (starts a) (broadcastInDim S4096x50x1 ![] bcast_S_S4096x50x1 (constantI S_ 32 0#32)))
        (cmpi .sle (starts a) (broadcastInDim S4096x50x1 ![0, 1, 2] bcast_S1x1x1_S4096x50x1_0_1_2 (broadcastInDim S1x1x1 ![2] bcast_S1_S1x1x1_2 (constantI S1 32 99999#32)))))
        (constantI S_ 1 1#1) reducesTo_S4096x50x1_S4096x50_d2 h_S_))
    (Host.gather gather_S100000x1_S4096x50x1_S4096x50x1_2_0_n_n_0_2_11 t (starts a))
    (broadcastInDim S4096x50x1 ![] bcast_S_S4096x50x1 (constant S_ .f32 0x7FC00000#32))

/-- In range, no index is wrapped, clamped or masked: the reference's result is the table taken at the indices. -/
theorem refOut_eq {F : FTy → Type} [FloatOps F] (a : IVec SB 32) (t : FVec F ST .f32) (h : ∀ j, (a j).toNat < 100000) : refOut a t = taken a t := by
  unfold refOut starts
  rw [wrapped_eq a h]
  funext y
  have hm : broadcastInDim S4096x50x1 ![0, 1] bcast_S4096x50_S4096x50x1_0_1
      (Host.reduce IntOp.andi (andi (cmpi .sge (broadcastInDim S4096x50x1 ![0, 1] bcast_S4096x50_S4096x50x1_0_1 a) (broadcastInDim S4096x50x1 ![] bcast_S_S4096x50x1 (constantI S_ 32 0#32)))
        (cmpi .sle (broadcastInDim S4096x50x1 ![0, 1] bcast_S4096x50_S4096x50x1_0_1 a) (broadcastInDim S4096x50x1 ![0, 1, 2] bcast_S1x1x1_S4096x50x1_0_1_2 (broadcastInDim S1x1x1 ![2] bcast_S1_S1x1x1_2 (constantI S1 32 99999#32)))))
        (constantI S_ 1 1#1) reducesTo_S4096x50x1_S4096x50_d2 h_S_) y = 1#1 := by
    rw [col_apply, reduce_and]
    intro i _
    have hi := h (ix2 (i 0 : Fin 4096) (i 1 : Fin 50))
    have h2 : ∀ a b : BitVec 1, a = 1#1 → b = 1#1 → IntOp.andi a b = 1#1 := by decide
    refine h2 _ _ ?_ ?_
    · show IntOp.cmpi .sge (broadcastInDim S4096x50x1 ![0, 1] bcast_S4096x50_S4096x50x1_0_1 a i) 0#32 = 1#1
      rw [col_apply]
      exact (sge_iff_toNat (by omega) (by decide)).mpr (Nat.zero_le _)
    · show IntOp.cmpi .sle (broadcastInDim S4096x50x1 ![0, 1] bcast_S4096x50_S4096x50x1_0_1 a i) 99999#32 = 1#1
      rw [col_apply]
      exact (sle_iff_toNat (by omega) (by decide)).mpr (show _ ≤ 99999 by omega)
  refine (select_of_one hm).trans ?_
  rw [gather_row]
  have hi := h (ix2 (y 0 : Fin 4096) (y 1 : Fin 50))
  refine congrArg (fun k : Fin 100000 => t (ix2 k (0 : Fin 1))) (Fin.ext ?_)
  show min (broadcastInDim S4096x50x1 ![0, 1] bcast_S4096x50_S4096x50x1_0_1 a (ix3 (y 0 : Fin 4096) (y 1 : Fin 50) (0 : Fin 1))).toInt.toNat 99999
    = (a (ix2 (y 0 : Fin 4096) (y 1 : Fin 50))).toNat % 100000
  rw [col_apply]
  show min (a (ix2 (y 0 : Fin 4096) (y 1 : Fin 50))).toInt.toNat 99999 = _
  rw [toInt_eq_toNat_of_lt (by omega), Int.toNat_natCast, Nat.mod_eq_of_lt hi]
  omega

end Ref

/-! ## The kernel -/

section Ker
open Cert.KernelIdeal Cert.KernelIdeal.Gen Cert.Proof.Tpu

variable {F : FTy → Type} [FloatOps F]
variable (m : (ℓ : Loc nD τ sig) → Buf (Elt F) ℓ) (d : Dev nD)

/-- The launch contents of the two arguments. -/
abbrev argI : IVec SB 32 := m (a0Loc d)
abbrev argT : FVec F ST .f32 := m (a1Loc d)

/-- The call's indices are the argument's, transposed. -/
theorem iC_apply (x : S50x4096.Idx) : iC m d x = argI m d (ix2 (x 1 : Fin 4096) (x 0 : Fin 50)) := by
  have e : iC m d = transpose S50x4096 [1, 0] (argI m d) transposes_S4096x50_S50x4096_1_0 :=
    ((opT (F := F)).result_of_not_mem (V1 m d) (b := i') (show i' ∉ ({t'} : Finset (DevRef τ sig)) by decide)).trans
      (StableHlo.unary_result main_arg0 main_v0 _ _ _ (V0 m d))
  rw [e]
  exact transpose_apply _ _ _ _ _ fun b => by
    match b with
    | ⟨0, _⟩ => rfl
    | ⟨1, _⟩ => rfl

/-- The call's table is the argument's one column. -/
theorem tC_apply (x : S100000.Idx) : tC m d x = argT m d (ix2 (x 0 : Fin 100000) (0 : Fin 1)) := by
  have e1 : V1 m d a1' = m (a1Loc d) := (opI (F := F)).result_of_not_mem (V0 m d) (b := a1') (show a1' ∉ ({i'} : Finset (DevRef τ sig)) by decide)
  have e : tC m d = shapeCast S100000 (argT m d) shapeCasts_S100000x1_S100000 := by
    unfold tC V2
    refine (StableHlo.reshape_result main_arg1 main_v1 _ _ _ _ (V1 m d)).trans ?_
    exact congrArg (fun v : FVec F ST .f32 => shapeCast S100000 v shapeCasts_S100000x1_S100000) e1
  rw [e]
  refine shapeCast_apply _ _ _ _ ?_
  rw [Shape.rowMajor_val_two, Shape.rowMajor_val_one]
  show (x 0).val * 1 + 0 = (x 0).val
  omega

/-- Every index of the call names a row of the table. -/
theorem iC_lt (h : ∀ j, (argI m d j).toNat < 100000) (x : S50x4096.Idx) : (iC m d x : BitVec 32).toNat < 100000 := by
  rw [iC_apply]; exact h _

/-- The kernel's result is the table taken at the indices. -/
theorem rC_eq : rC m d = taken (argI m d) (argT m d) := by
  have e4 : rC m d = broadcastInDim S4096x50x1 ![0, 1] bcast_S4096x50_S4096x50x1_0_1 (transpose S4096x50 [1, 0] (oC m d) transposes_S50x4096_S4096x50_1_0) := by
    unfold rC V5
    refine (StableHlo.unary_result main_v3 main_v4 _ _ _ (V4 m d)).trans (congrArg _ ?_)
    refine (StableHlo.unary_result main_v2 main_v3 _ _ _ (V3 m d)).trans ?_
    exact congrArg (fun v : FVec F S50x4096 .f32 => transpose S4096x50 [1, 0] v transposes_S50x4096_S4096x50_1_0) (V3_o m d)
  rw [e4]
  funext y
  refine (broadcastInDim_apply _ _ _ y (ix2 (y 0 : Fin 4096) (y 1 : Fin 50)) fun b => by
    match b with
    | ⟨0, _⟩ => rfl
    | ⟨1, _⟩ => rfl).trans ?_
  refine (transpose_apply _ _ _ _ (ix2 (y 1 : Fin 50) (y 0 : Fin 4096)) fun b => by
    match b with
    | ⟨0, _⟩ => rfl
    | ⟨1, _⟩ => rfl).trans ?_
  unfold oC taken
  rw [tC_apply]
  exact congrArg (fun w => argT m d (row w)) (iC_apply m d _)

end Ker

end Cert.Proof.Values

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Main
public import proofs.«01_k».proof.Proof.Values
public import Idealize.ShloMosaic.Adequacy
public import Idealize.ShloMosaic.Init

@[expose] public section

noncomputable section

namespace Cert.Proof

open Idealize.ShloMosaic Idealize.SL.Sem Cert.Kernel

/-- Under the precondition every index the call reads names a row of the table. -/
theorem rows_lt {F : FTy → Type} [FloatOps F] (m : (ℓ : Loc Cert.KernelIdeal.nD Cert.KernelIdeal.τ Cert.KernelIdeal.sig) → Buf (Elt F) ℓ)
    (h : ∀ d, Cert.Pre_in_range.fn (F := F) (Values.argI m d) (Values.argT m d) = fun _ => 1#1) (d : Dev Cert.KernelIdeal.nD)
    (x : Cert.KernelIdeal.S50x4096.Idx) : (Tpu.iC m d x : BitVec 32).toNat < 100000 :=
  Values.iC_lt m d (Values.in_range_lt _ _ (h d)) x

/-- The kernel's frame at the bit-exact floats: its run ends with the arguments unchanged and every counter at zero. -/
theorem frame_kernel : Cert.quiescent_Kernel := fun m ρ hpre =>
  (θ_run (Cert.KernelIdeal.defs (F := Bits)) _ _).mono (fun _ h => ⟨fun c => ⟨(h.1 c).1, (h.1 c).2.1⟩, h.2⟩)
    (Tpu.run_main (F := Bits) m ρ (rows_lt (F := Bits) m hpre))

/-- The kernel's frame at the ideal floats. -/
theorem frame_ideal : Cert.quiescent_KernelIdeal := fun m ρ hpre =>
  (θ_run (Cert.KernelIdeal.defs (F := Ideal)) _ _).mono (fun _ h => ⟨fun c => ⟨(h.1 c).1, (h.1 c).2.1⟩, h.2⟩)
    (Tpu.run_main (F := Ideal) m ρ (rows_lt (F := Ideal) m hpre))

/-- The reference's frame: its run leaves the arguments, and it declares no semaphore. -/
theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The same from the memories the precondition names. -/
theorem frame_reference_pre : Cert.quiescent_ReferenceIdeal_pre_in_range := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- Kernel and reference both end with the table taken at the indices. -/
theorem algebraic : Cert.algebraic_KernelIdeal_ReferenceIdeal := by
  intro m ρ m' ρ' hpre hagree
  refine ⟨fun c => Values.taken (Values.argI m c) (Values.argT m c), ?_, ?_⟩
  · exact (θ_run (Cert.KernelIdeal.defs (F := Ideal)) _ _).mono
      (fun _ h c => ⟨(h.1 c).2.2.trans (Values.rC_eq m c), (h.1 c).1, (h.1 c).2.1⟩)
      (Tpu.run_main (F := Ideal) m ρ (rows_lt (F := Ideal) m hpre))
  · refine (θ_run (Cert.ReferenceIdeal.defs (F := Ideal)) _ _).mono (fun _ h c => ⟨?_, (h c).2⟩) (Cert.ReferenceIdeal.Value.run (F := Ideal) m' ρ')
    refine (h c).1.trans ?_
    rw [(hagree c).1, (hagree c).2]
    exact Values.refOut_eq (F := Ideal) (Values.argI m c) (Values.argT m c) (Values.in_range_lt _ _ (hpre c))

theorem claim : Cert.Claim := ⟨Cert.Kernel.Gen.facts, Cert.KernelIdeal.Gen.facts, Cert.ReferenceIdeal.Gen.facts, Cert.Pre_in_range.Gen.facts,
  frame_kernel, frame_ideal, frame_reference, frame_reference_pre, trivial, algebraic⟩

end Cert.Proof

end
